-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk_KernelIdeal [hPre_finite_qk_KernelIdeal : Cert.Pre_finite_qk_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk_ReferenceIdeal [hPre_finite_qk_ReferenceIdeal : Cert.Pre_finite_qk_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_qk_KernelIdeal [hKernelIdeal : Cert.KernelIdeal.Facts] [hPre_finite_qk_KernelIdeal : Cert.Pre_finite_qk_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_qk_ReferenceIdeal [hReferenceIdeal : Cert.ReferenceIdeal.Facts] [hPre_finite_qk_ReferenceIdeal : Cert.Pre_finite_qk_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "inv_sqrt_d" .bf16 0x3DB5#16 (((Real.sqrt 128)⁻¹ : ℝ) : EReal)

def algebraic_KernelIdeal_ReferenceIdeal_pre_finite_qk_KernelIdeal [hKernelIdeal : Cert.KernelIdeal.Facts] [hReferenceIdeal : Cert.ReferenceIdeal.Facts] [hPre_finite_qk_KernelIdeal : Cert.Pre_finite_qk_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk_KernelIdeal m →
    (∀ c : Dev Cert.KernelIdeal.nD,
      m ((c.tc : Thread Cert.KernelIdeal.nD Cert.KernelIdeal.τ).loc Cert.KernelIdeal.main_arg0) = Layout.block ⟨2, ![512, 128]⟩ ⟨2, ![16384, 128]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 128]⟩ ⟨2, ![16384, 128]⟩ 0 32 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![512, 128]⟩ ⟨2, ![16384, 128]⟩ 0 32 c (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 128]⟩ ⟨2, ![16384, 128]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v20) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_qk_KernelIdeal : Cert.Pre_finite_qk_KernelIdeal.Facts) (hPre_finite_qk_ReferenceIdeal : Cert.Pre_finite_qk_ReferenceIdeal.Facts),
    quiescent_Kernel (hKernel := hKernel)
    ∧ quiescent_KernelIdeal (hKernelIdeal := hKernelIdeal)
    ∧ quiescent_KernelIdeal_pre_finite_qk_KernelIdeal (hKernelIdeal := hKernelIdeal) (hPre_finite_qk_KernelIdeal := hPre_finite_qk_KernelIdeal)
    ∧ quiescent_ReferenceIdeal (hReferenceIdeal := hReferenceIdeal)
    ∧ quiescent_ReferenceIdeal_pre_finite_qk_ReferenceIdeal (hReferenceIdeal := hReferenceIdeal) (hPre_finite_qk_ReferenceIdeal := hPre_finite_qk_ReferenceIdeal)
    ∧ preserves_Kernel_KernelIdeal
    ∧ algebraic_KernelIdeal_ReferenceIdeal_pre_finite_qk_KernelIdeal (hKernelIdeal := hKernelIdeal) (hReferenceIdeal := hReferenceIdeal) (hPre_finite_qk_KernelIdeal := hPre_finite_qk_KernelIdeal)
-- ==== Pre_finite_qk_KernelIdeal.lean ====
abbrev S512x128 : Shape := ⟨2, ![512, 128]⟩
abbrev S_ : Shape := ⟨0, ![]⟩

class Facts : Prop where
  bcast_S_S512x128 : S_.BroadcastsInDim S512x128 (![] : Fin 0 → Fin S512x128.rank)
  reducesTo_S512x128_S_d0_1 : S512x128.ReducesTo [0, 1] S_
  h_S_ : 0 < S_.numel

variable [Facts]

def fn {F : FTy → Type} [FloatOps F] (main_arg0 : FVec F S512x128 .bf16) (main_arg1 : FVec F S512x128 .bf16) (main_arg2 : FVec F S512x128 .bf16) : IVec S_ 1 :=
  let main_v0 : FVec F S512x128 .bf16 := Host.absf main_arg0
  let main_cst : FVec F S_ .bf16 := constant S_ .bf16 0x7F80#16
  let main_v1 : FVec F S512x128 .bf16 := broadcastInDim S512x128 ![] bcast_S_S512x128 main_cst
  let main_v2 : IVec S512x128 1 := cmpf .olt main_v0 main_v1
  let main_c : IVec S_ 1 := constantI S_ 1 1#1
  let main_v3 : IVec S_ 1 := (fun x v => Host.reduce IntOp.andi x v reducesTo_S512x128_S_d0_1 h_S_) main_v2 main_c
  let main_v4 : FVec F S512x128 .bf16 := Host.absf main_arg1
  let main_cst_0 : FVec F S_ .bf16 := constant S_ .bf16 0x7F80#16
  let main_v5 : FVec F S512x128 .bf16 := broadcastInDim S512x128 ![] bcast_S_S512x128 main_cst_0
  let main_v6 : IVec S512x128 1 := cmpf .olt main_v4 main_v5
  let main_c_1 : IVec S_ 1 := constantI S_ 1 1#1
  let main_v7 : IVec S_ 1 := (fun x v => Host.reduce IntOp.andi x v reducesTo_S512x128_S_d0_1 h_S_) main_v6 main_c_1
  let main_v8 : IVec S_ 1 := andi main_v3 main_v7
  main_v8
-- ==== Pre_finite_qk_ReferenceIdeal.lean ====
abbrev S16384x128 : Shape := ⟨2, ![16384, 128]⟩
abbrev S_ : Shape := ⟨0, ![]⟩

class Facts : Prop where
  bcast_S_S16384x128 : S_.BroadcastsInDim S16384x128 (![] : Fin 0 → Fin S16384x128.rank)
  reducesTo_S16384x128_S_d0_1 : S16384x128.ReducesTo [0, 1] S_
  h_S_ : 0 < S_.numel

variable [Facts]

def fn {F : FTy → Type} [FloatOps F] (main_arg0 : FVec F S16384x128 .bf16) (main_arg1 : FVec F S16384x128 .bf16) (main_arg2 : FVec F S16384x128 .bf16) : IVec S_ 1 :=
  let main_v0 : FVec F S16384x128 .bf16 := Host.absf main_arg0
  let main_cst : FVec F S_ .bf16 := constant S_ .bf16 0x7F80#16
  let main_v1 : FVec F S16384x128 .bf16 := broadcastInDim S16384x128 ![] bcast_S_S16384x128 main_cst
  let main_v2 : IVec S16384x128 1 := cmpf .olt main_v0 main_v1
  let main_c : IVec S_ 1 := constantI S_ 1 1#1
  let main_v3 : IVec S_ 1 := (fun x v => Host.reduce IntOp.andi x v reducesTo_S16384x128_S_d0_1 h_S_) main_v2 main_c
  let main_v4 : FVec F S16384x128 .bf16 := Host.absf main_arg1
  let main_cst_0 : FVec F S_ .bf16 := constant S_ .bf16 0x7F80#16
  let main_v5 : FVec F S16384x128 .bf16 := broadcastInDim S16384x128 ![] bcast_S_S16384x128 main_cst_0
  let main_v6 : IVec S16384x128 1 := cmpf .olt main_v4 main_v5
  let main_c_1 : IVec S_ 1 := constantI S_ 1 1#1
  let main_v7 : IVec S_ 1 := (fun x v => Host.reduce IntOp.andi x v reducesTo_S16384x128_S_d0_1 h_S_) main_v6 main_c_1
  let main_v8 : IVec S_ 1 := andi main_v3 main_v7
  main_v8
-- ==== Kernel.lean ====
abbrev S512x128 : Shape := ⟨2, ![512, 128]⟩
abbrev S9x1024x128 : Shape := ⟨3, ![9, 1024, 128]⟩
abbrev S8x1024x128 : Shape := ⟨3, ![8, 1024, 128]⟩
abbrev S512x256 : Shape := ⟨2, ![512, 256]⟩
abbrev S2 : Shape := ⟨1, ![2]⟩
abbrev S9 : Shape := ⟨1, ![9]⟩
abbrev S8 : Shape := ⟨1, ![8]⟩
abbrev S_ : Shape := ⟨0, ![]⟩
abbrev S1x512x128 : Shape := ⟨3, ![1, 512, 128]⟩
abbrev S1 : Shape := ⟨1, ![1]⟩
abbrev S1x1024x128 : Shape := ⟨3, ![1, 1024, 128]⟩
abbrev S1024x128 : Shape := ⟨2, ![1024, 128]⟩
abbrev S1024x256 : Shape := ⟨2, ![1024, 256]⟩
abbrev S1024x512 : Shape := ⟨2, ![1024, 512]⟩
abbrev S512x1 : Shape := ⟨2, ![512, 1]⟩

abbrev nBuf : Space → Nat
  | .hbm => 4
  | .vmem => 10
  | .smem => 0
  | _ => 0

abbrev bufTy : (tb : Table) → Fin (tcTables nBuf tb) → BufTy
  | .hbm, ⟨0, _⟩ => ⟨S512x128, .bf16⟩
  | .hbm, ⟨1, _⟩ => ⟨S512x128, .bf16⟩
  | .hbm, ⟨2, _⟩ => ⟨S512x128, .bf16⟩
  | .hbm, ⟨3, _⟩ => ⟨S512x128, .f32⟩
  | .local _ .vmem, ⟨0, _⟩ => ⟨S512x128, .bf16⟩
  | .local _ .vmem, ⟨1, _⟩ => ⟨S512x128, .bf16⟩
  | .local _ .vmem, ⟨2, _⟩ => ⟨S512x128, .bf16⟩
  | .local _ .vmem, ⟨3, _⟩ => ⟨S512x128, .f32⟩
  | .local _ .vmem, ⟨4, _⟩ => ⟨S512x128, .bf16⟩
  | .local _ .vmem, ⟨5, _⟩ => ⟨S512x128, .bf16⟩
  | .local _ .vmem, ⟨6, _⟩ => ⟨S9x1024x128, .bf16⟩
  | .local _ .vmem, ⟨7, _⟩ => ⟨S8x1024x128, .bf16⟩
  | .local _ .vmem, ⟨8, _⟩ => ⟨S512x256, .bf16⟩
  | .local _ .vmem, ⟨9, _⟩ => ⟨S512x256, .bf16⟩
  | _, _ => ⟨S512x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  (ofTc nBuf bufTy 1 42 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_35 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c16_i32 : BitVec 32 := 16#32
  let c0_i32_1 : BitVec 32 := 0#32
  let v9 : BitVec 1 := Scalar.cmpi .sgt c16_i32 c0_i32_1
  let v10 : BitVec 32 := Scalar.extui v9
  let c0_i32_2 : BitVec 32 := 0#32
  let v11 : BitVec 1 := Scalar.cmpi .slt c16_i32 c0_i32_2
  let v12 : BitVec 32 := Scalar.extui v11
  let v13 : BitVec 32 := Scalar.subi v10 v12
  let v14 : BitVec 1 := Scalar.cmpi .ne v8 v13
  let v15 : BitVec 32 := Scalar.remsi v2 c16_i32
  let c0_i32_3 : BitVec 32 := 0#32
  let v16 : BitVec 1 := Scalar.cmpi .ne v15 c0_i32_3
  let v17 : BitVec 1 := Scalar.andi v14 v16
  let v3 : BitVec 32 := Scalar.divsi v2 c16_i32
  let c1_i32_4 : BitVec 32 := 1#32
  let v18 : BitVec 32 := Scalar.subi v3 c1_i32_4
  let v19 : BitVec 32 := Scalar.select v17 v18 v3
  let c16_i32_5 : BitVec 32 := 16#32
  let v20 : BitVec 32 := Scalar.muli v19 c16_i32_5
  let c16_i32_6 : BitVec 32 := 16#32
  let c0_i32_7 : BitVec 32 := 0#32
  let v21 : BitVec 1 := Scalar.cmpi .eq c16_i32_6 c0_i32_7
  let c1_i32_8 : BitVec 32 := 1#32
  let v22 : BitVec 32 := Scalar.select v21 c1_i32_8 c16_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let c1_i32_19 : BitVec 32 := 1#32
  let v43 : BitVec 32 := Scalar.subi v30 c1_i32_19
  let c16_i32_20 : BitVec 32 := 16#32
  let c0_i32_21 : BitVec 32 := 0#32
  let v44 : BitVec 1 := Scalar.cmpi .eq c16_i32_20 c0_i32_21
  let c1_i32_22 : BitVec 32 := 1#32
  let v45 : BitVec 32 := Scalar.select v44 c1_i32_22 c16_i32_20
  let v46 : BitVec 32 := Scalar.remsi v43 v45
  let c0_i32_24 : BitVec 32 := 0#32
  let v48 : BitVec 1 := Scalar.cmpi .slt v46 c0_i32_24
  let c0_i32_25 : BitVec 32 := 0#32
  let v49 : BitVec 1 := Scalar.cmpi .slt v45 c0_i32_25
  let v50 : BitVec 1 := Scalar.xori v48 v49
  let c0_i32_23 : BitVec 32 := 0#32
  let v47 : BitVec 1 := Scalar.cmpi .ne v46 c0_i32_23
  let v51 : BitVec 1 := Scalar.andi v50 v47
  let v52 : BitVec 32 := Scalar.addi v46 v45
  let v53 : BitVec 32 := Scalar.select v51 v52 v46
  let v54 : BitVec 32 := Scalar.addi v20 v53
  let c1_i32_34 : BitVec 32 := 1#32
  let v67 : BitVec 32 := Scalar.muli v54 c1_i32_34
  let v68 : BitVec 32 := Scalar.addi c0_i32_35 v67
  v68.toNat
def k0_dev2 (d0 : Dev nD) : Nat :=
  let c0_i32_38 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c16_i32 : BitVec 32 := 16#32
  let c0_i32_1 : BitVec 32 := 0#32
  let v9 : BitVec 1 := Scalar.cmpi .sgt c16_i32 c0_i32_1
  let v10 : BitVec 32 := Scalar.extui v9
  let c0_i32_2 : BitVec 32 := 0#32
  let v11 : BitVec 1 := Scalar.cmpi .slt c16_i32 c0_i32_2
  let v12 : BitVec 32 := Scalar.extui v11
  let v13 : BitVec 32 := Scalar.subi v10 v12
  let v14 : BitVec 1 := Scalar.cmpi .ne v8 v13
  let v15 : BitVec 32 := Scalar.remsi v2 c16_i32
  let c0_i32_3 : BitVec 32 := 0#32
  let v16 : BitVec 1 := Scalar.cmpi .ne v15 c0_i32_3
  let v17 : BitVec 1 := Scalar.andi v14 v16
  let v3 : BitVec 32 := Scalar.divsi v2 c16_i32
  let c1_i32_4 : BitVec 32 := 1#32
  let v18 : BitVec 32 := Scalar.subi v3 c1_i32_4
  let v19 : BitVec 32 := Scalar.select v17 v18 v3
  let c16_i32_5 : BitVec 32 := 16#32
  let v20 : BitVec 32 := Scalar.muli v19 c16_i32_5
  let c16_i32_6 : BitVec 32 := 16#32
  let c0_i32_7 : BitVec 32 := 0#32
  let v21 : BitVec 1 := Scalar.cmpi .eq c16_i32_6 c0_i32_7
  let c1_i32_8 : BitVec 32 := 1#32
  let v22 : BitVec 32 := Scalar.select v21 c1_i32_8 c16_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let c1_i32_12 : BitVec 32 := 1#32
  let v31 : BitVec 32 := Scalar.addi v30 c1_i32_12
  let c16_i32_13 : BitVec 32 := 16#32
  let c0_i32_14 : BitVec 32 := 0#32
  let v32 : BitVec 1 := Scalar.cmpi .eq c16_i32_13 c0_i32_14
  let c1_i32_15 : BitVec 32 := 1#32
  let v33 : BitVec 32 := Scalar.select v32 c1_i32_15 c16_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v20 v41
  let c1_i32_37 : BitVec 32 := 1#32
  let v69 : BitVec 32 := Scalar.muli v42 c1_i32_37
  let v70 : BitVec 32 := Scalar.addi c0_i32_38 v69
  v70.toNat
def k0_dev3 (d0 : Dev nD) : Nat :=
  let c0_i32_41 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_26 : BitVec 32 := 16#32
  let v55 : BitVec 32 := Scalar.addi v2 c16_i32_26
  let c32_i32_27 : BitVec 32 := 32#32
  let c0_i32_28 : BitVec 32 := 0#32
  let v56 : BitVec 1 := Scalar.cmpi .eq c32_i32_27 c0_i32_28
  let c1_i32_29 : BitVec 32 := 1#32
  let v57 : BitVec 32 := Scalar.select v56 c1_i32_29 c32_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c1_i32_40 : BitVec 32 := 1#32
  let v71 : BitVec 32 := Scalar.muli v65 c1_i32_40
  let v72 : BitVec 32 := Scalar.addi c0_i32_41 v71
  v72.toNat
def k0_dev4 (d0 : Dev nD) : Nat :=
  let c0_i32_63 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_26 : BitVec 32 := 16#32
  let v55 : BitVec 32 := Scalar.addi v2 c16_i32_26
  let c32_i32_27 : BitVec 32 := 32#32
  let c0_i32_28 : BitVec 32 := 0#32
  let v56 : BitVec 1 := Scalar.cmpi .eq c32_i32_27 c0_i32_28
  let c1_i32_29 : BitVec 32 := 1#32
  let v57 : BitVec 32 := Scalar.select v56 c1_i32_29 c32_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c1_i32_62 : BitVec 32 := 1#32
  let v96 : BitVec 32 := Scalar.muli v65 c1_i32_62
  let v97 : BitVec 32 := Scalar.addi c0_i32_63 v96
  v97.toNat
def k0_dev5 (d0 : Dev nD) : Nat :=
  let c0_i32_69 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c16_i32 : BitVec 32 := 16#32
  let c0_i32_1 : BitVec 32 := 0#32
  let v9 : BitVec 1 := Scalar.cmpi .sgt c16_i32 c0_i32_1
  let v10 : BitVec 32 := Scalar.extui v9
  let c0_i32_2 : BitVec 32 := 0#32
  let v11 : BitVec 1 := Scalar.cmpi .slt c16_i32 c0_i32_2
  let v12 : BitVec 32 := Scalar.extui v11
  let v13 : BitVec 32 := Scalar.subi v10 v12
  let v14 : BitVec 1 := Scalar.cmpi .ne v8 v13
  let v15 : BitVec 32 := Scalar.remsi v2 c16_i32
  let c0_i32_3 : BitVec 32 := 0#32
  let v16 : BitVec 1 := Scalar.cmpi .ne v15 c0_i32_3
  let v17 : BitVec 1 := Scalar.andi v14 v16
  let v3 : BitVec 32 := Scalar.divsi v2 c16_i32
  let c1_i32_4 : BitVec 32 := 1#32
  let v18 : BitVec 32 := Scalar.subi v3 c1_i32_4
  let v19 : BitVec 32 := Scalar.select v17 v18 v3
  let c16_i32_5 : BitVec 32 := 16#32
  let v20 : BitVec 32 := Scalar.muli v19 c16_i32_5
  let c16_i32_6 : BitVec 32 := 16#32
  let c0_i32_7 : BitVec 32 := 0#32
  let v21 : BitVec 1 := Scalar.cmpi .eq c16_i32_6 c0_i32_7
  let c1_i32_8 : BitVec 32 := 1#32
  let v22 : BitVec 32 := Scalar.select v21 c1_i32_8 c16_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let c1_i32_12 : BitVec 32 := 1#32
  let v31 : BitVec 32 := Scalar.addi v30 c1_i32_12
  let c16_i32_13 : BitVec 32 := 16#32
  let c0_i32_14 : BitVec 32 := 0#32
  let v32 : BitVec 1 := Scalar.cmpi .eq c16_i32_13 c0_i32_14
  let c1_i32_15 : BitVec 32 := 1#32
  let v33 : BitVec 32 := Scalar.select v32 c1_i32_15 c16_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v20 v41
  let c1_i32_68 : BitVec 32 := 1#32
  let v102 : BitVec 32 := Scalar.muli v42 c1_i32_68
  let v103 : BitVec 32 := Scalar.addi c0_i32_69 v102
  v103.toNat
def k0_dev6 (d0 : Dev nD) : Nat :=
  let c0_i32_79 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c16_i32 : BitVec 32 := 16#32
  let c0_i32_1 : BitVec 32 := 0#32
  let v9 : BitVec 1 := Scalar.cmpi .sgt c16_i32 c0_i32_1
  let v10 : BitVec 32 := Scalar.extui v9
  let c0_i32_2 : BitVec 32 := 0#32
  let v11 : BitVec 1 := Scalar.cmpi .slt c16_i32 c0_i32_2
  let v12 : BitVec 32 := Scalar.extui v11
  let v13 : BitVec 32 := Scalar.subi v10 v12
  let v14 : BitVec 1 := Scalar.cmpi .ne v8 v13
  let v15 : BitVec 32 := Scalar.remsi v2 c16_i32
  let c0_i32_3 : BitVec 32 := 0#32
  let v16 : BitVec 1 := Scalar.cmpi .ne v15 c0_i32_3
  let v17 : BitVec 1 := Scalar.andi v14 v16
  let v3 : BitVec 32 := Scalar.divsi v2 c16_i32
  let c1_i32_4 : BitVec 32 := 1#32
  let v18 : BitVec 32 := Scalar.subi v3 c1_i32_4
  let v19 : BitVec 32 := Scalar.select v17 v18 v3
  let c16_i32_5 : BitVec 32 := 16#32
  let v20 : BitVec 32 := Scalar.muli v19 c16_i32_5
  let c16_i32_6 : BitVec 32 := 16#32
  let c0_i32_7 : BitVec 32 := 0#32
  let v21 : BitVec 1 := Scalar.cmpi .eq c16_i32_6 c0_i32_7
  let c1_i32_8 : BitVec 32 := 1#32
  let v22 : BitVec 32 := Scalar.select v21 c1_i32_8 c16_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let c1_i32_19 : BitVec 32 := 1#32
  let v43 : BitVec 32 := Scalar.subi v30 c1_i32_19
  let c16_i32_20 : BitVec 32 := 16#32
  let c0_i32_21 : BitVec 32 := 0#32
  let v44 : BitVec 1 := Scalar.cmpi .eq c16_i32_20 c0_i32_21
  let c1_i32_22 : BitVec 32 := 1#32
  let v45 : BitVec 32 := Scalar.select v44 c1_i32_22 c16_i32_20
  let v46 : BitVec 32 := Scalar.remsi v43 v45
  let c0_i32_24 : BitVec 32 := 0#32
  let v48 : BitVec 1 := Scalar.cmpi .slt v46 c0_i32_24
  let c0_i32_25 : BitVec 32 := 0#32
  let v49 : BitVec 1 := Scalar.cmpi .slt v45 c0_i32_25
  let v50 : BitVec 1 := Scalar.xori v48 v49
  let c0_i32_23 : BitVec 32 := 0#32
  let v47 : BitVec 1 := Scalar.cmpi .ne v46 c0_i32_23
  let v51 : BitVec 1 := Scalar.andi v50 v47
  let v52 : BitVec 32 := Scalar.addi v46 v45
  let v53 : BitVec 32 := Scalar.select v51 v52 v46
  let v54 : BitVec 32 := Scalar.addi v20 v53
  let c1_i32_78 : BitVec 32 := 1#32
  let v112 : BitVec 32 := Scalar.muli v54 c1_i32_78
  let v113 : BitVec 32 := Scalar.addi c0_i32_79 v112
  v113.toNat
def k0_dev7 (d0 : Dev nD) : Nat :=
  let c0_i32_116 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c16_i32 : BitVec 32 := 16#32
  let c0_i32_1 : BitVec 32 := 0#32
  let v9 : BitVec 1 := Scalar.cmpi .sgt c16_i32 c0_i32_1
  let v10 : BitVec 32 := Scalar.extui v9
  let c0_i32_2 : BitVec 32 := 0#32
  let v11 : BitVec 1 := Scalar.cmpi .slt c16_i32 c0_i32_2
  let v12 : BitVec 32 := Scalar.extui v11
  let v13 : BitVec 32 := Scalar.subi v10 v12
  let v14 : BitVec 1 := Scalar.cmpi .ne v8 v13
  let v15 : BitVec 32 := Scalar.remsi v2 c16_i32
  let c0_i32_3 : BitVec 32 := 0#32
  let v16 : BitVec 1 := Scalar.cmpi .ne v15 c0_i32_3
  let v17 : BitVec 1 := Scalar.andi v14 v16
  let v3 : BitVec 32 := Scalar.divsi v2 c16_i32
  let c1_i32_4 : BitVec 32 := 1#32
  let v18 : BitVec 32 := Scalar.subi v3 c1_i32_4
  let v19 : BitVec 32 := Scalar.select v17 v18 v3
  let c16_i32_5 : BitVec 32 := 16#32
  let v20 : BitVec 32 := Scalar.muli v19 c16_i32_5
  let c16_i32_6 : BitVec 32 := 16#32
  let c0_i32_7 : BitVec 32 := 0#32
  let v21 : BitVec 1 := Scalar.cmpi .eq c16_i32_6 c0_i32_7
  let c1_i32_8 : BitVec 32 := 1#32
  let v22 : BitVec 32 := Scalar.select v21 c1_i32_8 c16_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let c1_i32_12 : BitVec 32 := 1#32
  let v31 : BitVec 32 := Scalar.addi v30 c1_i32_12
  let c16_i32_13 : BitVec 32 := 16#32
  let c0_i32_14 : BitVec 32 := 0#32
  let v32 : BitVec 1 := Scalar.cmpi .eq c16_i32_13 c0_i32_14
  let c1_i32_15 : BitVec 32 := 1#32
  let v33 : BitVec 32 := Scalar.select v32 c1_i32_15 c16_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v20 v41
  let c1_i32_115 : BitVec 32 := 1#32
  let v149 : BitVec 32 := Scalar.muli v42 c1_i32_115
  let v150 : BitVec 32 := Scalar.addi c0_i32_116 v149
  v150.toNat
def k0_dev8 (d0 : Dev nD) : Nat :=
  let c0_i32_143 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c16_i32 : BitVec 32 := 16#32
  let c0_i32_1 : BitVec 32 := 0#32
  let v9 : BitVec 1 := Scalar.cmpi .sgt c16_i32 c0_i32_1
  let v10 : BitVec 32 := Scalar.extui v9
  let c0_i32_2 : BitVec 32 := 0#32
  let v11 : BitVec 1 := Scalar.cmpi .slt c16_i32 c0_i32_2
  let v12 : BitVec 32 := Scalar.extui v11
  let v13 : BitVec 32 := Scalar.subi v10 v12
  let v14 : BitVec 1 := Scalar.cmpi .ne v8 v13
  let v15 : BitVec 32 := Scalar.remsi v2 c16_i32
  let c0_i32_3 : BitVec 32 := 0#32
  let v16 : BitVec 1 := Scalar.cmpi .ne v15 c0_i32_3
  let v17 : BitVec 1 := Scalar.andi v14 v16
  let v3 : BitVec 32 := Scalar.divsi v2 c16_i32
  let c1_i32_4 : BitVec 32 := 1#32
  let v18 : BitVec 32 := Scalar.subi v3 c1_i32_4
  let v19 : BitVec 32 := Scalar.select v17 v18 v3
  let c16_i32_5 : BitVec 32 := 16#32
  let v20 : BitVec 32 := Scalar.muli v19 c16_i32_5
  let c16_i32_6 : BitVec 32 := 16#32
  let c0_i32_7 : BitVec 32 := 0#32
  let v21 : BitVec 1 := Scalar.cmpi .eq c16_i32_6 c0_i32_7
  let c1_i32_8 : BitVec 32 := 1#32
  let v22 : BitVec 32 := Scalar.select v21 c1_i32_8 c16_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let c1_i32_19 : BitVec 32 := 1#32
  let v43 : BitVec 32 := Scalar.subi v30 c1_i32_19
  let c16_i32_20 : BitVec 32 := 16#32
  let c0_i32_21 : BitVec 32 := 0#32
  let v44 : BitVec 1 := Scalar.cmpi .eq c16_i32_20 c0_i32_21
  let c1_i32_22 : BitVec 32 := 1#32
  let v45 : BitVec 32 := Scalar.select v44 c1_i32_22 c16_i32_20
  let v46 : BitVec 32 := Scalar.remsi v43 v45
  let c0_i32_24 : BitVec 32 := 0#32
  let v48 : BitVec 1 := Scalar.cmpi .slt v46 c0_i32_24
  let c0_i32_25 : BitVec 32 := 0#32
  let v49 : BitVec 1 := Scalar.cmpi .slt v45 c0_i32_25
  let v50 : BitVec 1 := Scalar.xori v48 v49
  let c0_i32_23 : BitVec 32 := 0#32
  let v47 : BitVec 1 := Scalar.cmpi .ne v46 c0_i32_23
  let v51 : BitVec 1 := Scalar.andi v50 v47
  let v52 : BitVec 32 := Scalar.addi v46 v45
  let v53 : BitVec 32 := Scalar.select v51 v52 v46
  let v54 : BitVec 32 := Scalar.addi v20 v53
  let c1_i32_142 : BitVec 32 := 1#32
  let v177 : BitVec 32 := Scalar.muli v54 c1_i32_142
  let v178 : BitVec 32 := Scalar.addi c0_i32_143 v177
  v178.toNat
def k0_dev9 (d0 : Dev nD) : Nat :=
  let c0_i32_171 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c16_i32 : BitVec 32 := 16#32
  let c0_i32_1 : BitVec 32 := 0#32
  let v9 : BitVec 1 := Scalar.cmpi .sgt c16_i32 c0_i32_1
  let v10 : BitVec 32 := Scalar.extui v9
  let c0_i32_2 : BitVec 32 := 0#32
  let v11 : BitVec 1 := Scalar.cmpi .slt c16_i32 c0_i32_2
  let v12 : BitVec 32 := Scalar.extui v11
  let v13 : BitVec 32 := Scalar.subi v10 v12
  let v14 : BitVec 1 := Scalar.cmpi .ne v8 v13
  let v15 : BitVec 32 := Scalar.remsi v2 c16_i32
  let c0_i32_3 : BitVec 32 := 0#32
  let v16 : BitVec 1 := Scalar.cmpi .ne v15 c0_i32_3
  let v17 : BitVec 1 := Scalar.andi v14 v16
  let v3 : BitVec 32 := Scalar.divsi v2 c16_i32
  let c1_i32_4 : BitVec 32 := 1#32
  let v18 : BitVec 32 := Scalar.subi v3 c1_i32_4
  let v19 : BitVec 32 := Scalar.select v17 v18 v3
  let c16_i32_5 : BitVec 32 := 16#32
  let v20 : BitVec 32 := Scalar.muli v19 c16_i32_5
  let c16_i32_6 : BitVec 32 := 16#32
  let c0_i32_7 : BitVec 32 := 0#32
  let v21 : BitVec 1 := Scalar.cmpi .eq c16_i32_6 c0_i32_7
  let c1_i32_8 : BitVec 32 := 1#32
  let v22 : BitVec 32 := Scalar.select v21 c1_i32_8 c16_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let c1_i32_12 : BitVec 32 := 1#32
  let v31 : BitVec 32 := Scalar.addi v30 c1_i32_12
  let c16_i32_13 : BitVec 32 := 16#32
  let c0_i32_14 : BitVec 32 := 0#32
  let v32 : BitVec 1 := Scalar.cmpi .eq c16_i32_13 c0_i32_14
  let c1_i32_15 : BitVec 32 := 1#32
  let v33 : BitVec 32 := Scalar.select v32 c1_i32_15 c16_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v20 v41
  let c1_i32_170 : BitVec 32 := 1#32
  let v205 : BitVec 32 := Scalar.muli v42 c1_i32_170
  let v206 : BitVec 32 := Scalar.addi c0_i32_171 v205
  v206.toNat
def k0_dev10 (d0 : Dev nD) : Nat :=
  let c0_i32_198 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c16_i32 : BitVec 32 := 16#32
  let c0_i32_1 : BitVec 32 := 0#32
  let v9 : BitVec 1 := Scalar.cmpi .sgt c16_i32 c0_i32_1
  let v10 : BitVec 32 := Scalar.extui v9
  let c0_i32_2 : BitVec 32 := 0#32
  let v11 : BitVec 1 := Scalar.cmpi .slt c16_i32 c0_i32_2
  let v12 : BitVec 32 := Scalar.extui v11
  let v13 : BitVec 32 := Scalar.subi v10 v12
  let v14 : BitVec 1 := Scalar.cmpi .ne v8 v13
  let v15 : BitVec 32 := Scalar.remsi v2 c16_i32
  let c0_i32_3 : BitVec 32 := 0#32
  let v16 : BitVec 1 := Scalar.cmpi .ne v15 c0_i32_3
  let v17 : BitVec 1 := Scalar.andi v14 v16
  let v3 : BitVec 32 := Scalar.divsi v2 c16_i32
  let c1_i32_4 : BitVec 32 := 1#32
  let v18 : BitVec 32 := Scalar.subi v3 c1_i32_4
  let v19 : BitVec 32 := Scalar.select v17 v18 v3
  let c16_i32_5 : BitVec 32 := 16#32
  let v20 : BitVec 32 := Scalar.muli v19 c16_i32_5
  let c16_i32_6 : BitVec 32 := 16#32
  let c0_i32_7 : BitVec 32 := 0#32
  let v21 : BitVec 1 := Scalar.cmpi .eq c16_i32_6 c0_i32_7
  let c1_i32_8 : BitVec 32 := 1#32
  let v22 : BitVec 32 := Scalar.select v21 c1_i32_8 c16_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let c1_i32_19 : BitVec 32 := 1#32
  let v43 : BitVec 32 := Scalar.subi v30 c1_i32_19
  let c16_i32_20 : BitVec 32 := 16#32
  let c0_i32_21 : BitVec 32 := 0#32
  let v44 : BitVec 1 := Scalar.cmpi .eq c16_i32_20 c0_i32_21
  let c1_i32_22 : BitVec 32 := 1#32
  let v45 : BitVec 32 := Scalar.select v44 c1_i32_22 c16_i32_20
  let v46 : BitVec 32 := Scalar.remsi v43 v45
  let c0_i32_24 : BitVec 32 := 0#32
  let v48 : BitVec 1 := Scalar.cmpi .slt v46 c0_i32_24
  let c0_i32_25 : BitVec 32 := 0#32
  let v49 : BitVec 1 := Scalar.cmpi .slt v45 c0_i32_25
  let v50 : BitVec 1 := Scalar.xori v48 v49
  let c0_i32_23 : BitVec 32 := 0#32
  let v47 : BitVec 1 := Scalar.cmpi .ne v46 c0_i32_23
  let v51 : BitVec 1 := Scalar.andi v50 v47
  let v52 : BitVec 32 := Scalar.addi v46 v45
  let v53 : BitVec 32 := Scalar.select v51 v52 v46
  let v54 : BitVec 32 := Scalar.addi v20 v53
  let c1_i32_197 : BitVec 32 := 1#32
  let v233 : BitVec 32 := Scalar.muli v54 c1_i32_197
  let v234 : BitVec 32 := Scalar.addi c0_i32_198 v233
  v234.toNat
def k0_dev11 (d0 : Dev nD) : Nat :=
  let c0_i32_225 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c16_i32 : BitVec 32 := 16#32
  let c0_i32_1 : BitVec 32 := 0#32
  let v9 : BitVec 1 := Scalar.cmpi .sgt c16_i32 c0_i32_1
  let v10 : BitVec 32 := Scalar.extui v9
  let c0_i32_2 : BitVec 32 := 0#32
  let v11 : BitVec 1 := Scalar.cmpi .slt c16_i32 c0_i32_2
  let v12 : BitVec 32 := Scalar.extui v11
  let v13 : BitVec 32 := Scalar.subi v10 v12
  let v14 : BitVec 1 := Scalar.cmpi .ne v8 v13
  let v15 : BitVec 32 := Scalar.remsi v2 c16_i32
  let c0_i32_3 : BitVec 32 := 0#32
  let v16 : BitVec 1 := Scalar.cmpi .ne v15 c0_i32_3
  let v17 : BitVec 1 := Scalar.andi v14 v16
  let v3 : BitVec 32 := Scalar.divsi v2 c16_i32
  let c1_i32_4 : BitVec 32 := 1#32
  let v18 : BitVec 32 := Scalar.subi v3 c1_i32_4
  let v19 : BitVec 32 := Scalar.select v17 v18 v3
  let c16_i32_5 : BitVec 32 := 16#32
  let v20 : BitVec 32 := Scalar.muli v19 c16_i32_5
  let c16_i32_6 : BitVec 32 := 16#32
  let c0_i32_7 : BitVec 32 := 0#32
  let v21 : BitVec 1 := Scalar.cmpi .eq c16_i32_6 c0_i32_7
  let c1_i32_8 : BitVec 32 := 1#32
  let v22 : BitVec 32 := Scalar.select v21 c1_i32_8 c16_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let c1_i32_12 : BitVec 32 := 1#32
  let v31 : BitVec 32 := Scalar.addi v30 c1_i32_12
  let c16_i32_13 : BitVec 32 := 16#32
  let c0_i32_14 : BitVec 32 := 0#32
  let v32 : BitVec 1 := Scalar.cmpi .eq c16_i32_13 c0_i32_14
  let c1_i32_15 : BitVec 32 := 1#32
  let v33 : BitVec 32 := Scalar.select v32 c1_i32_15 c16_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v20 v41
  let c1_i32_224 : BitVec 32 := 1#32
  let v261 : BitVec 32 := Scalar.muli v42 c1_i32_224
  let v262 : BitVec 32 := Scalar.addi c0_i32_225 v261
  v262.toNat
def k0_dev12 (d0 : Dev nD) : Nat :=
  let c0_i32_252 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c16_i32 : BitVec 32 := 16#32
  let c0_i32_1 : BitVec 32 := 0#32
  let v9 : BitVec 1 := Scalar.cmpi .sgt c16_i32 c0_i32_1
  let v10 : BitVec 32 := Scalar.extui v9
  let c0_i32_2 : BitVec 32 := 0#32
  let v11 : BitVec 1 := Scalar.cmpi .slt c16_i32 c0_i32_2
  let v12 : BitVec 32 := Scalar.extui v11
  let v13 : BitVec 32 := Scalar.subi v10 v12
  let v14 : BitVec 1 := Scalar.cmpi .ne v8 v13
  let v15 : BitVec 32 := Scalar.remsi v2 c16_i32
  let c0_i32_3 : BitVec 32 := 0#32
  let v16 : BitVec 1 := Scalar.cmpi .ne v15 c0_i32_3
  let v17 : BitVec 1 := Scalar.andi v14 v16
  let v3 : BitVec 32 := Scalar.divsi v2 c16_i32
  let c1_i32_4 : BitVec 32 := 1#32
  let v18 : BitVec 32 := Scalar.subi v3 c1_i32_4
  let v19 : BitVec 32 := Scalar.select v17 v18 v3
  let c16_i32_5 : BitVec 32 := 16#32
  let v20 : BitVec 32 := Scalar.muli v19 c16_i32_5
  let c16_i32_6 : BitVec 32 := 16#32
  let c0_i32_7 : BitVec 32 := 0#32
  let v21 : BitVec 1 := Scalar.cmpi .eq c16_i32_6 c0_i32_7
  let c1_i32_8 : BitVec 32 := 1#32
  let v22 : BitVec 32 := Scalar.select v21 c1_i32_8 c16_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let c1_i32_19 : BitVec 32 := 1#32
  let v43 : BitVec 32 := Scalar.subi v30 c1_i32_19
  let c16_i32_20 : BitVec 32 := 16#32
  let c0_i32_21 : BitVec 32 := 0#32
  let v44 : BitVec 1 := Scalar.cmpi .eq c16_i32_20 c0_i32_21
  let c1_i32_22 : BitVec 32 := 1#32
  let v45 : BitVec 32 := Scalar.select v44 c1_i32_22 c16_i32_20
  let v46 : BitVec 32 := Scalar.remsi v43 v45
  let c0_i32_24 : BitVec 32 := 0#32
  let v48 : BitVec 1 := Scalar.cmpi .slt v46 c0_i32_24
  let c0_i32_25 : BitVec 32 := 0#32
  let v49 : BitVec 1 := Scalar.cmpi .slt v45 c0_i32_25
  let v50 : BitVec 1 := Scalar.xori v48 v49
  let c0_i32_23 : BitVec 32 := 0#32
  let v47 : BitVec 1 := Scalar.cmpi .ne v46 c0_i32_23
  let v51 : BitVec 1 := Scalar.andi v50 v47
  let v52 : BitVec 32 := Scalar.addi v46 v45
  let v53 : BitVec 32 := Scalar.select v51 v52 v46
  let v54 : BitVec 32 := Scalar.addi v20 v53
  let c1_i32_251 : BitVec 32 := 1#32
  let v289 : BitVec 32 := Scalar.muli v54 c1_i32_251
  let v290 : BitVec 32 := Scalar.addi c0_i32_252 v289
  v290.toNat
def k0_dev13 (d0 : Dev nD) : Nat :=
  let c0_i32_279 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c16_i32 : BitVec 32 := 16#32
  let c0_i32_1 : BitVec 32 := 0#32
  let v9 : BitVec 1 := Scalar.cmpi .sgt c16_i32 c0_i32_1
  let v10 : BitVec 32 := Scalar.extui v9
  let c0_i32_2 : BitVec 32 := 0#32
  let v11 : BitVec 1 := Scalar.cmpi .slt c16_i32 c0_i32_2
  let v12 : BitVec 32 := Scalar.extui v11
  let v13 : BitVec 32 := Scalar.subi v10 v12
  let v14 : BitVec 1 := Scalar.cmpi .ne v8 v13
  let v15 : BitVec 32 := Scalar.remsi v2 c16_i32
  let c0_i32_3 : BitVec 32 := 0#32
  let v16 : BitVec 1 := Scalar.cmpi .ne v15 c0_i32_3
  let v17 : BitVec 1 := Scalar.andi v14 v16
  let v3 : BitVec 32 := Scalar.divsi v2 c16_i32
  let c1_i32_4 : BitVec 32 := 1#32
  let v18 : BitVec 32 := Scalar.subi v3 c1_i32_4
  let v19 : BitVec 32 := Scalar.select v17 v18 v3
  let c16_i32_5 : BitVec 32 := 16#32
  let v20 : BitVec 32 := Scalar.muli v19 c16_i32_5
  let c16_i32_6 : BitVec 32 := 16#32
  let c0_i32_7 : BitVec 32 := 0#32
  let v21 : BitVec 1 := Scalar.cmpi .eq c16_i32_6 c0_i32_7
  let c1_i32_8 : BitVec 32 := 1#32
  let v22 : BitVec 32 := Scalar.select v21 c1_i32_8 c16_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let c1_i32_12 : BitVec 32 := 1#32
  let v31 : BitVec 32 := Scalar.addi v30 c1_i32_12
  let c16_i32_13 : BitVec 32 := 16#32
  let c0_i32_14 : BitVec 32 := 0#32
  let v32 : BitVec 1 := Scalar.cmpi .eq c16_i32_13 c0_i32_14
  let c1_i32_15 : BitVec 32 := 1#32
  let v33 : BitVec 32 := Scalar.select v32 c1_i32_15 c16_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v20 v41
  let c1_i32_278 : BitVec 32 := 1#32
  let v317 : BitVec 32 := Scalar.muli v42 c1_i32_278
  let v318 : BitVec 32 := Scalar.addi c0_i32_279 v317
  v318.toNat
def k0_dev14 (d0 : Dev nD) : Nat :=
  let c0_i32_306 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c16_i32 : BitVec 32 := 16#32
  let c0_i32_1 : BitVec 32 := 0#32
  let v9 : BitVec 1 := Scalar.cmpi .sgt c16_i32 c0_i32_1
  let v10 : BitVec 32 := Scalar.extui v9
  let c0_i32_2 : BitVec 32 := 0#32
  let v11 : BitVec 1 := Scalar.cmpi .slt c16_i32 c0_i32_2
  let v12 : BitVec 32 := Scalar.extui v11
  let v13 : BitVec 32 := Scalar.subi v10 v12
  let v14 : BitVec 1 := Scalar.cmpi .ne v8 v13
  let v15 : BitVec 32 := Scalar.remsi v2 c16_i32
  let c0_i32_3 : BitVec 32 := 0#32
  let v16 : BitVec 1 := Scalar.cmpi .ne v15 c0_i32_3
  let v17 : BitVec 1 := Scalar.andi v14 v16
  let v3 : BitVec 32 := Scalar.divsi v2 c16_i32
  let c1_i32_4 : BitVec 32 := 1#32
  let v18 : BitVec 32 := Scalar.subi v3 c1_i32_4
  let v19 : BitVec 32 := Scalar.select v17 v18 v3
  let c16_i32_5 : BitVec 32 := 16#32
  let v20 : BitVec 32 := Scalar.muli v19 c16_i32_5
  let c16_i32_6 : BitVec 32 := 16#32
  let c0_i32_7 : BitVec 32 := 0#32
  let v21 : BitVec 1 := Scalar.cmpi .eq c16_i32_6 c0_i32_7
  let c1_i32_8 : BitVec 32 := 1#32
  let v22 : BitVec 32 := Scalar.select v21 c1_i32_8 c16_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let c1_i32_19 : BitVec 32 := 1#32
  let v43 : BitVec 32 := Scalar.subi v30 c1_i32_19
  let c16_i32_20 : BitVec 32 := 16#32
  let c0_i32_21 : BitVec 32 := 0#32
  let v44 : BitVec 1 := Scalar.cmpi .eq c16_i32_20 c0_i32_21
  let c1_i32_22 : BitVec 32 := 1#32
  let v45 : BitVec 32 := Scalar.select v44 c1_i32_22 c16_i32_20
  let v46 : BitVec 32 := Scalar.remsi v43 v45
  let c0_i32_24 : BitVec 32 := 0#32
  let v48 : BitVec 1 := Scalar.cmpi .slt v46 c0_i32_24
  let c0_i32_25 : BitVec 32 := 0#32
  let v49 : BitVec 1 := Scalar.cmpi .slt v45 c0_i32_25
  let v50 : BitVec 1 := Scalar.xori v48 v49
  let c0_i32_23 : BitVec 32 := 0#32
  let v47 : BitVec 1 := Scalar.cmpi .ne v46 c0_i32_23
  let v51 : BitVec 1 := Scalar.andi v50 v47
  let v52 : BitVec 32 := Scalar.addi v46 v45
  let v53 : BitVec 32 := Scalar.select v51 v52 v46
  let v54 : BitVec 32 := Scalar.addi v20 v53
  let c1_i32_305 : BitVec 32 := 1#32
  let v345 : BitVec 32 := Scalar.muli v54 c1_i32_305
  let v346 : BitVec 32 := Scalar.addi c0_i32_306 v345
  v346.toNat
def k0_dev15 (d0 : Dev nD) : Nat :=
  let c0_i32_333 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c16_i32 : BitVec 32 := 16#32
  let c0_i32_1 : BitVec 32 := 0#32
  let v9 : BitVec 1 := Scalar.cmpi .sgt c16_i32 c0_i32_1
  let v10 : BitVec 32 := Scalar.extui v9
  let c0_i32_2 : BitVec 32 := 0#32
  let v11 : BitVec 1 := Scalar.cmpi .slt c16_i32 c0_i32_2
  let v12 : BitVec 32 := Scalar.extui v11
  let v13 : BitVec 32 := Scalar.subi v10 v12
  let v14 : BitVec 1 := Scalar.cmpi .ne v8 v13
  let v15 : BitVec 32 := Scalar.remsi v2 c16_i32
  let c0_i32_3 : BitVec 32 := 0#32
  let v16 : BitVec 1 := Scalar.cmpi .ne v15 c0_i32_3
  let v17 : BitVec 1 := Scalar.andi v14 v16
  let v3 : BitVec 32 := Scalar.divsi v2 c16_i32
  let c1_i32_4 : BitVec 32 := 1#32
  let v18 : BitVec 32 := Scalar.subi v3 c1_i32_4
  let v19 : BitVec 32 := Scalar.select v17 v18 v3
  let c16_i32_5 : BitVec 32 := 16#32
  let v20 : BitVec 32 := Scalar.muli v19 c16_i32_5
  let c16_i32_6 : BitVec 32 := 16#32
  let c0_i32_7 : BitVec 32 := 0#32
  let v21 : BitVec 1 := Scalar.cmpi .eq c16_i32_6 c0_i32_7
  let c1_i32_8 : BitVec 32 := 1#32
  let v22 : BitVec 32 := Scalar.select v21 c1_i32_8 c16_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let c1_i32_12 : BitVec 32 := 1#32
  let v31 : BitVec 32 := Scalar.addi v30 c1_i32_12
  let c16_i32_13 : BitVec 32 := 16#32
  let c0_i32_14 : BitVec 32 := 0#32
  let v32 : BitVec 1 := Scalar.cmpi .eq c16_i32_13 c0_i32_14
  let c1_i32_15 : BitVec 32 := 1#32
  let v33 : BitVec 32 := Scalar.select v32 c1_i32_15 c16_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v20 v41
  let c1_i32_332 : BitVec 32 := 1#32
  let v373 : BitVec 32 := Scalar.muli v42 c1_i32_332
  let v374 : BitVec 32 := Scalar.addi c0_i32_333 v373
  v374.toNat
def k0_dev16 (d0 : Dev nD) : Nat :=
  let c0_i32_360 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c16_i32 : BitVec 32 := 16#32
  let c0_i32_1 : BitVec 32 := 0#32
  let v9 : BitVec 1 := Scalar.cmpi .sgt c16_i32 c0_i32_1
  let v10 : BitVec 32 := Scalar.extui v9
  let c0_i32_2 : BitVec 32 := 0#32
  let v11 : BitVec 1 := Scalar.cmpi .slt c16_i32 c0_i32_2
  let v12 : BitVec 32 := Scalar.extui v11
  let v13 : BitVec 32 := Scalar.subi v10 v12
  let v14 : BitVec 1 := Scalar.cmpi .ne v8 v13
  let v15 : BitVec 32 := Scalar.remsi v2 c16_i32
  let c0_i32_3 : BitVec 32 := 0#32
  let v16 : BitVec 1 := Scalar.cmpi .ne v15 c0_i32_3
  let v17 : BitVec 1 := Scalar.andi v14 v16
  let v3 : BitVec 32 := Scalar.divsi v2 c16_i32
  let c1_i32_4 : BitVec 32 := 1#32
  let v18 : BitVec 32 := Scalar.subi v3 c1_i32_4
  let v19 : BitVec 32 := Scalar.select v17 v18 v3
  let c16_i32_5 : BitVec 32 := 16#32
  let v20 : BitVec 32 := Scalar.muli v19 c16_i32_5
  let c16_i32_6 : BitVec 32 := 16#32
  let c0_i32_7 : BitVec 32 := 0#32
  let v21 : BitVec 1 := Scalar.cmpi .eq c16_i32_6 c0_i32_7
  let c1_i32_8 : BitVec 32 := 1#32
  let v22 : BitVec 32 := Scalar.select v21 c1_i32_8 c16_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let c1_i32_19 : BitVec 32 := 1#32
  let v43 : BitVec 32 := Scalar.subi v30 c1_i32_19
  let c16_i32_20 : BitVec 32 := 16#32
  let c0_i32_21 : BitVec 32 := 0#32
  let v44 : BitVec 1 := Scalar.cmpi .eq c16_i32_20 c0_i32_21
  let c1_i32_22 : BitVec 32 := 1#32
  let v45 : BitVec 32 := Scalar.select v44 c1_i32_22 c16_i32_20
  let v46 : BitVec 32 := Scalar.remsi v43 v45
  let c0_i32_24 : BitVec 32 := 0#32
  let v48 : BitVec 1 := Scalar.cmpi .slt v46 c0_i32_24
  let c0_i32_25 : BitVec 32 := 0#32
  let v49 : BitVec 1 := Scalar.cmpi .slt v45 c0_i32_25
  let v50 : BitVec 1 := Scalar.xori v48 v49
  let c0_i32_23 : BitVec 32 := 0#32
  let v47 : BitVec 1 := Scalar.cmpi .ne v46 c0_i32_23
  let v51 : BitVec 1 := Scalar.andi v50 v47
  let v52 : BitVec 32 := Scalar.addi v46 v45
  let v53 : BitVec 32 := Scalar.select v51 v52 v46
  let v54 : BitVec 32 := Scalar.addi v20 v53
  let c1_i32_359 : BitVec 32 := 1#32
  let v401 : BitVec 32 := Scalar.muli v54 c1_i32_359
  let v402 : BitVec 32 := Scalar.addi c0_i32_360 v401
  v402.toNat
def k0_dev17 (d0 : Dev nD) : Nat :=
  let c0_i32_387 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c16_i32 : BitVec 32 := 16#32
  let c0_i32_1 : BitVec 32 := 0#32
  let v9 : BitVec 1 := Scalar.cmpi .sgt c16_i32 c0_i32_1
  let v10 : BitVec 32 := Scalar.extui v9
  let c0_i32_2 : BitVec 32 := 0#32
  let v11 : BitVec 1 := Scalar.cmpi .slt c16_i32 c0_i32_2
  let v12 : BitVec 32 := Scalar.extui v11
  let v13 : BitVec 32 := Scalar.subi v10 v12
  let v14 : BitVec 1 := Scalar.cmpi .ne v8 v13
  let v15 : BitVec 32 := Scalar.remsi v2 c16_i32
  let c0_i32_3 : BitVec 32 := 0#32
  let v16 : BitVec 1 := Scalar.cmpi .ne v15 c0_i32_3
  let v17 : BitVec 1 := Scalar.andi v14 v16
  let v3 : BitVec 32 := Scalar.divsi v2 c16_i32
  let c1_i32_4 : BitVec 32 := 1#32
  let v18 : BitVec 32 := Scalar.subi v3 c1_i32_4
  let v19 : BitVec 32 := Scalar.select v17 v18 v3
  let c16_i32_5 : BitVec 32 := 16#32
  let v20 : BitVec 32 := Scalar.muli v19 c16_i32_5
  let c16_i32_6 : BitVec 32 := 16#32
  let c0_i32_7 : BitVec 32 := 0#32
  let v21 : BitVec 1 := Scalar.cmpi .eq c16_i32_6 c0_i32_7
  let c1_i32_8 : BitVec 32 := 1#32
  let v22 : BitVec 32 := Scalar.select v21 c1_i32_8 c16_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let c1_i32_12 : BitVec 32 := 1#32
  let v31 : BitVec 32 := Scalar.addi v30 c1_i32_12
  let c16_i32_13 : BitVec 32 := 16#32
  let c0_i32_14 : BitVec 32 := 0#32
  let v32 : BitVec 1 := Scalar.cmpi .eq c16_i32_13 c0_i32_14
  let c1_i32_15 : BitVec 32 := 1#32
  let v33 : BitVec 32 := Scalar.select v32 c1_i32_15 c16_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v20 v41
  let c1_i32_386 : BitVec 32 := 1#32
  let v429 : BitVec 32 := Scalar.muli v42 c1_i32_386
  let v430 : BitVec 32 := Scalar.addi c0_i32_387 v429
  v430.toNat
def k0_dev18 (d0 : Dev nD) : Nat :=
  let c0_i32_414 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c16_i32 : BitVec 32 := 16#32
  let c0_i32_1 : BitVec 32 := 0#32
  let v9 : BitVec 1 := Scalar.cmpi .sgt c16_i32 c0_i32_1
  let v10 : BitVec 32 := Scalar.extui v9
  let c0_i32_2 : BitVec 32 := 0#32
  let v11 : BitVec 1 := Scalar.cmpi .slt c16_i32 c0_i32_2
  let v12 : BitVec 32 := Scalar.extui v11
  let v13 : BitVec 32 := Scalar.subi v10 v12
  let v14 : BitVec 1 := Scalar.cmpi .ne v8 v13
  let v15 : BitVec 32 := Scalar.remsi v2 c16_i32
  let c0_i32_3 : BitVec 32 := 0#32
  let v16 : BitVec 1 := Scalar.cmpi .ne v15 c0_i32_3
  let v17 : BitVec 1 := Scalar.andi v14 v16
  let v3 : BitVec 32 := Scalar.divsi v2 c16_i32
  let c1_i32_4 : BitVec 32 := 1#32
  let v18 : BitVec 32 := Scalar.subi v3 c1_i32_4
  let v19 : BitVec 32 := Scalar.select v17 v18 v3
  let c16_i32_5 : BitVec 32 := 16#32
  let v20 : BitVec 32 := Scalar.muli v19 c16_i32_5
  let c16_i32_6 : BitVec 32 := 16#32
  let c0_i32_7 : BitVec 32 := 0#32
  let v21 : BitVec 1 := Scalar.cmpi .eq c16_i32_6 c0_i32_7
  let c1_i32_8 : BitVec 32 := 1#32
  let v22 : BitVec 32 := Scalar.select v21 c1_i32_8 c16_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let c1_i32_19 : BitVec 32 := 1#32
  let v43 : BitVec 32 := Scalar.subi v30 c1_i32_19
  let c16_i32_20 : BitVec 32 := 16#32
  let c0_i32_21 : BitVec 32 := 0#32
  let v44 : BitVec 1 := Scalar.cmpi .eq c16_i32_20 c0_i32_21
  let c1_i32_22 : BitVec 32 := 1#32
  let v45 : BitVec 32 := Scalar.select v44 c1_i32_22 c16_i32_20
  let v46 : BitVec 32 := Scalar.remsi v43 v45
  let c0_i32_24 : BitVec 32 := 0#32
  let v48 : BitVec 1 := Scalar.cmpi .slt v46 c0_i32_24
  let c0_i32_25 : BitVec 32 := 0#32
  let v49 : BitVec 1 := Scalar.cmpi .slt v45 c0_i32_25
  let v50 : BitVec 1 := Scalar.xori v48 v49
  let c0_i32_23 : BitVec 32 := 0#32
  let v47 : BitVec 1 := Scalar.cmpi .ne v46 c0_i32_23
  let v51 : BitVec 1 := Scalar.andi v50 v47
  let v52 : BitVec 32 := Scalar.addi v46 v45
  let v53 : BitVec 32 := Scalar.select v51 v52 v46
  let v54 : BitVec 32 := Scalar.addi v20 v53
  let c1_i32_413 : BitVec 32 := 1#32
  let v457 : BitVec 32 := Scalar.muli v54 c1_i32_413
  let v458 : BitVec 32 := Scalar.addi c0_i32_414 v457
  v458.toNat
def k0_dev19 (d0 : Dev nD) : Nat :=
  let c0_i32_441 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c16_i32 : BitVec 32 := 16#32
  let c0_i32_1 : BitVec 32 := 0#32
  let v9 : BitVec 1 := Scalar.cmpi .sgt c16_i32 c0_i32_1
  let v10 : BitVec 32 := Scalar.extui v9
  let c0_i32_2 : BitVec 32 := 0#32
  let v11 : BitVec 1 := Scalar.cmpi .slt c16_i32 c0_i32_2
  let v12 : BitVec 32 := Scalar.extui v11
  let v13 : BitVec 32 := Scalar.subi v10 v12
  let v14 : BitVec 1 := Scalar.cmpi .ne v8 v13
  let v15 : BitVec 32 := Scalar.remsi v2 c16_i32
  let c0_i32_3 : BitVec 32 := 0#32
  let v16 : BitVec 1 := Scalar.cmpi .ne v15 c0_i32_3
  let v17 : BitVec 1 := Scalar.andi v14 v16
  let v3 : BitVec 32 := Scalar.divsi v2 c16_i32
  let c1_i32_4 : BitVec 32 := 1#32
  let v18 : BitVec 32 := Scalar.subi v3 c1_i32_4
  let v19 : BitVec 32 := Scalar.select v17 v18 v3
  let c16_i32_5 : BitVec 32 := 16#32
  let v20 : BitVec 32 := Scalar.muli v19 c16_i32_5
  let c16_i32_6 : BitVec 32 := 16#32
  let c0_i32_7 : BitVec 32 := 0#32
  let v21 : BitVec 1 := Scalar.cmpi .eq c16_i32_6 c0_i32_7
  let c1_i32_8 : BitVec 32 := 1#32
  let v22 : BitVec 32 := Scalar.select v21 c1_i32_8 c16_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let c1_i32_12 : BitVec 32 := 1#32
  let v31 : BitVec 32 := Scalar.addi v30 c1_i32_12
  let c16_i32_13 : BitVec 32 := 16#32
  let c0_i32_14 : BitVec 32 := 0#32
  let v32 : BitVec 1 := Scalar.cmpi .eq c16_i32_13 c0_i32_14
  let c1_i32_15 : BitVec 32 := 1#32
  let v33 : BitVec 32 := Scalar.select v32 c1_i32_15 c16_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v20 v41
  let c1_i32_440 : BitVec 32 := 1#32
  let v485 : BitVec 32 := Scalar.muli v42 c1_i32_440
  let v486 : BitVec 32 := Scalar.addi c0_i32_441 v485
  v486.toNat
def k0_dev20 (d0 : Dev nD) : Nat :=
  let c0_i32_493 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_26 : BitVec 32 := 16#32
  let v55 : BitVec 32 := Scalar.addi v2 c16_i32_26
  let c32_i32_27 : BitVec 32 := 32#32
  let c0_i32_28 : BitVec 32 := 0#32
  let v56 : BitVec 1 := Scalar.cmpi .eq c32_i32_27 c0_i32_28
  let c1_i32_29 : BitVec 32 := 1#32
  let v57 : BitVec 32 := Scalar.select v56 c1_i32_29 c32_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c1_i32_492 : BitVec 32 := 1#32
  let v546 : BitVec 32 := Scalar.muli v65 c1_i32_492
  let v547 : BitVec 32 := Scalar.addi c0_i32_493 v546
  v547.toNat
abbrev stage0_0 : Fin 1 → Memref sig .tc .vmem S512x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== KernelIdeal.lean ====
variable {F : FTy → Type} [FloatOps F] [Named F]
def κ : String → Option EReal := fun
  | "inv_sqrt_d" => some (((Real.sqrt 128)⁻¹ : ℝ) : EReal)
  | _ => none
-- ==== ReferenceIdeal.lean ====
abbrev S16384x128 : Shape := ⟨2, ![16384, 128]⟩
abbrev S128x16384 : Shape := ⟨2, ![128, 16384]⟩
abbrev S16384x16384 : Shape := ⟨2, ![16384, 16384]⟩
abbrev S_ : Shape := ⟨0, ![]⟩
abbrev S16384 : Shape := ⟨1, ![16384]⟩
abbrev S16384x1 : Shape := ⟨2, ![16384, 1]⟩

abbrev nBuf : Space → Nat
  | .hbm => 27
  | .vmem => 0
  | .smem => 0
  | _ => 0

abbrev bufTy : (tb : Table) → Fin (tcTables nBuf tb) → BufTy
  | .hbm, ⟨0, _⟩ => ⟨S16384x128, .bf16⟩
  | .hbm, ⟨1, _⟩ => ⟨S16384x128, .bf16⟩
  | .hbm, ⟨2, _⟩ => ⟨S16384x128, .bf16⟩
  | .hbm, ⟨3, _⟩ => ⟨S128x16384, .bf16⟩
  | .hbm, ⟨4, _⟩ => ⟨S16384x16384, .f32⟩
  | .hbm, ⟨5, _⟩ => ⟨S16384x16384, .bf16⟩
  | .hbm, ⟨6, _⟩ => ⟨S_, .f32⟩
  | .hbm, ⟨7, _⟩ => ⟨S_, .f32⟩
  | .hbm, ⟨8, _⟩ => ⟨S_, .bf16⟩
  | .hbm, ⟨9, _⟩ => ⟨S16384x16384, .bf16⟩
  | .hbm, ⟨10, _⟩ => ⟨S16384x16384, .bf16⟩
  | .hbm, ⟨11, _⟩ => ⟨S_, .bf16⟩
  | .hbm, ⟨12, _⟩ => ⟨S16384, .bf16⟩
  | .hbm, ⟨13, _⟩ => ⟨S16384x1, .bf16⟩
  | .hbm, ⟨14, _⟩ => ⟨S16384x16384, .bf16⟩
  | .hbm, ⟨15, _⟩ => ⟨S16384x16384, .bf16⟩
  | .hbm, ⟨16, _⟩ => ⟨S16384x16384, .bf16⟩
  | .hbm, ⟨17, _⟩ => ⟨S16384x16384, .f32⟩
  | .hbm, ⟨18, _⟩ => ⟨S_, .f32⟩
  | .hbm, ⟨19, _⟩ => ⟨S16384, .f32⟩
  | .hbm, ⟨20, _⟩ => ⟨S16384x1, .f32⟩
  | .hbm, ⟨21, _⟩ => ⟨S16384x1, .bf16⟩
  | .hbm, ⟨22, _⟩ => ⟨S16384x16384, .bf16⟩
  | .hbm, ⟨23, _⟩ => ⟨S16384x16384, .bf16⟩
  | .hbm, ⟨24, _⟩ => ⟨S16384x128, .f32⟩
  | .hbm, ⟨25, _⟩ => ⟨S16384x128, .bf16⟩
  | .hbm, ⟨26, _⟩ => ⟨S16384x128, .f32⟩
  | _, _ => ⟨S16384x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩

abbrev nD : Nat := 1
abbrev τ : Topo := Topo.v7x

variable {F : FTy → Type} [FloatOps F]
-- ==== Proof.Ideal.Cells.lean ====
/-
The kernel's devices, semaphores, buffers and contents, named for the proof.

The 32 devices form two rows of sixteen. Each row is a ring; each device also has a partner in the
other row. A device makes seventeen transfers, numbered here by `Fin 17` (a *lane*): lanes 0 … 7
are the hops around the ring to the right (hop `j` from slot `j` of the right-going buffer into
slot `j + 1` of the neighbour's), lanes 8 … 14 the hops to the left, lane 15 hands the partner the
scaled queries and lane 16 the partial sums of the partner's rows.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.Launch
public import Idealize.ShloMosaic.Lib.Pipeline.Kit
public import Idealize.ShloMosaic.Lib.Pipeline.BigSepL
public import Idealize.ShloMosaic.Lib.Pipeline.TalkSched
public import Idealize.ShloMosaic.Lib.Ring
public import Idealize.ShloMosaic.Lib.ValueIdxCore
public import Idealize.ShloMosaic.Lib.Tactic

@[expose] public section

noncomputable section

namespace Cert.RunIdeal

open Cert.KernelIdeal Cert.KernelIdeal.Gen

open Idealize.ShloMosaic
open Idealize.ShloMosaic.TcCoe
open Idealize.ShloMosaic.ValueIdx (ix3)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-! ## Resource algebra -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

/-! ## The mesh -/

set_option backward.proofsInPublic true in
/-- The right neighbour in the row of sixteen. -/
def rgt (c : Dev nD) : Dev nD := ⟨c.val / 16 * 16 + (c.val + 1) % 16, by have := c.isLt; simp only [nD] at *; omega⟩
set_option backward.proofsInPublic true in
/-- The left neighbour in the row of sixteen. -/
def lft (c : Dev nD) : Dev nD := ⟨c.val / 16 * 16 + (c.val + 15) % 16, by have := c.isLt; simp only [nD] at *; omega⟩
set_option backward.proofsInPublic true in
/-- The same place in the other row. -/
def far (c : Dev nD) : Dev nD := ⟨(c.val + 16) % 32, Nat.mod_lt _ (by decide)⟩

theorem lft_rgt (c : Dev nD) : lft (rgt c) = c := by revert c; decide
theorem rgt_lft (c : Dev nD) : rgt (lft c) = c := by revert c; decide
theorem far_far (c : Dev nD) : far (far c) = c := by revert c; decide
theorem rgt_ne_lft (c : Dev nD) : rgt c ≠ lft c := by revert c; decide
theorem rgt_ne_far (c : Dev nD) : rgt c ≠ far c := by revert c; decide
theorem lft_ne_far (c : Dev nD) : lft c ≠ far c := by revert c; decide

theorem dev1_at (c : Dev nD) : (⟨k0_dev1 c, k0_dev1_lt c⟩ : Dev nD) = lft c := by revert c; decide +kernel
theorem dev2_at (c : Dev nD) : (⟨k0_dev2 c, k0_dev2_lt c⟩ : Dev nD) = rgt c := by revert c; decide +kernel
theorem dev3_at (c : Dev nD) : (⟨k0_dev3 c, k0_dev3_lt c⟩ : Dev nD) = far c := by revert c; decide +kernel
theorem dev4_at (c : Dev nD) : (⟨k0_dev4 c, k0_dev4_lt c⟩ : Dev nD) = far c := by revert c; decide +kernel
theorem dev5_at (c : Dev nD) : (⟨k0_dev5 c, k0_dev5_lt c⟩ : Dev nD) = rgt c := by revert c; decide +kernel
theorem dev6_at (c : Dev nD) : (⟨k0_dev6 c, k0_dev6_lt c⟩ : Dev nD) = lft c := by revert c; decide +kernel
theorem dev7_at (c : Dev nD) : (⟨k0_dev7 c, k0_dev7_lt c⟩ : Dev nD) = rgt c := by revert c; decide +kernel
theorem dev8_at (c : Dev nD) : (⟨k0_dev8 c, k0_dev8_lt c⟩ : Dev nD) = lft c := by revert c; decide +kernel
theorem dev9_at (c : Dev nD) : (⟨k0_dev9 c, k0_dev9_lt c⟩ : Dev nD) = rgt c := by revert c; decide +kernel
theorem dev10_at (c : Dev nD) : (⟨k0_dev10 c, k0_dev10_lt c⟩ : Dev nD) = lft c := by revert c; decide +kernel
theorem dev11_at (c : Dev nD) : (⟨k0_dev11 c, k0_dev11_lt c⟩ : Dev nD) = rgt c := by revert c; decide +kernel
theorem dev12_at (c : Dev nD) : (⟨k0_dev12 c, k0_dev12_lt c⟩ : Dev nD) = lft c := by revert c; decide +kernel
theorem dev13_at (c : Dev nD) : (⟨k0_dev13 c, k0_dev13_lt c⟩ : Dev nD) = rgt c := by revert c; decide +kernel
theorem dev14_at (c : Dev nD) : (⟨k0_dev14 c, k0_dev14_lt c⟩ : Dev nD) = lft c := by revert c; decide +kernel
theorem dev15_at (c : Dev nD) : (⟨k0_dev15 c, k0_dev15_lt c⟩ : Dev nD) = rgt c := by revert c; decide +kernel
theorem dev16_at (c : Dev nD) : (⟨k0_dev16 c, k0_dev16_lt c⟩ : Dev nD) = lft c := by revert c; decide +kernel
theorem dev17_at (c : Dev nD) : (⟨k0_dev17 c, k0_dev17_lt c⟩ : Dev nD) = rgt c := by revert c; decide +kernel
theorem dev18_at (c : Dev nD) : (⟨k0_dev18 c, k0_dev18_lt c⟩ : Dev nD) = lft c := by revert c; decide +kernel
theorem dev19_at (c : Dev nD) : (⟨k0_dev19 c, k0_dev19_lt c⟩ : Dev nD) = rgt c := by revert c; decide +kernel
theorem dev20_at (c : Dev nD) : (⟨k0_dev20 c, k0_dev20_lt c⟩ : Dev nD) = far c := by revert c; decide +kernel

/-- Whom lane `x` of device `c` addresses. -/
def peer (x : Fin 17) (c : Dev nD) : Dev nD := if x.val < 8 then rgt c else if x.val < 15 then lft c else far c
/-- Who addresses device `c` on lane `x`. -/
def back (x : Fin 17) (c : Dev nD) : Dev nD := if x.val < 8 then lft c else if x.val < 15 then rgt c else far c
theorem back_peer (x : Fin 17) (c : Dev nD) : back x (peer x c) = c := by
  unfold back peer; split_ifs
  exacts [lft_rgt c, rgt_lft c, far_far c]
theorem peer_back (x : Fin 17) (c : Dev nD) : peer x (back x c) = c := by
  unfold back peer; split_ifs
  exacts [rgt_lft c, lft_rgt c, far_far c]

/-! ## The semaphores -/

/-- The runtime's barrier semaphore of collective id 0. -/
abbrev barS : Sem sig := (SemArray.scalar (sig.barrier 0 rfl) : Sems sig S_).sem
/-- Lane `x`'s send and receive semaphore. -/
def sN : Fin 17 → DmaSem sig := ![7, 8, 9, 10, 11, 12, 13, 14, 25, 26, 27, 28, 29, 30, 31, 4, 40]
def rN : Fin 17 → DmaSem sig := ![16, 17, 18, 19, 20, 21, 22, 23, 33, 34, 35, 36, 37, 38, 39, 5, 41]
theorem sN_inj : Function.Injective sN := by decide
theorem rN_inj : Function.Injective rN := by decide
theorem sN_ne_rN (x y : Fin 17) : sN x ≠ rN y := by revert x y; decide

abbrev barCell (c : Dev nD) : GSem nD τ sig := ((c : Thread nD τ), .reg barS)
abbrev sCell (x : Fin 17) (c : Dev nD) : GSem nD τ sig := ((c : Thread nD τ), .dma (sN x))
abbrev rCell (x : Fin 17) (c : Dev nD) : GSem nD τ sig := ((c : Thread nD τ), .dma (rN x))

/-! ## The buffers -/

abbrev qmM : Memref sig .tc .vmem S512x128 .bf16 := Memref.whole cc0_scratch0
abbrev qoM : Memref sig .tc .vmem S512x128 .bf16 := Memref.whole cc0_scratch1
abbrev rbM : Memref sig .tc .vmem S9x1024x128 .bf16 := Memref.whole cc0_scratch2
abbrev lbM : Memref sig .tc .vmem S8x1024x128 .bf16 := Memref.whole cc0_scratch3
abbrev saM : Memref sig .tc .vmem S512x256 .bf16 := Memref.whole cc0_scratch4
abbrev raM : Memref sig .tc .vmem S512x256 .bf16 := Memref.whole cc0_scratch5

theorem rIn (h : Fin 9) : ∀ a, (![h.val, 0, 0] : Fin 3 → ℕ) a + S1x1024x128.size a ≤ S9x1024x128.size a := by
  intro a; have := h.isLt; fin_cases a
  · show h.val + 1 ≤ 9; omega
  · show 0 + 1024 ≤ 1024; omega
  · show 0 + 128 ≤ 128; omega
theorem lIn (h : Fin 8) : ∀ a, (![h.val, 0, 0] : Fin 3 → ℕ) a + S1x1024x128.size a ≤ S8x1024x128.size a := by
  intro a; have := h.isLt; fin_cases a
  · show h.val + 1 ≤ 8; omega
  · show 0 + 1024 ≤ 1024; omega
  · show 0 + 128 ≤ 128; omega

abbrev rRect (h : Fin 9) : Rect S9x1024x128 := Rect.unit (s := S9x1024x128) ![h.val, 0, 0] S1x1024x128.size (rIn h)
abbrev lRect (h : Fin 8) : Rect S8x1024x128 := Rect.unit (s := S8x1024x128) ![h.val, 0, 0] S1x1024x128.size (lIn h)
/-- Slot `h` of the right-going and of the left-going buffer. -/
abbrev rSl (h : Fin 9) : Memref sig .tc .vmem S1024x128 .bf16 := (rbM.slice (rRect h) (fun _ => rfl)).squeeze S1024x128 squeezes_S1x1024x128_S1024x128
abbrev lSl (h : Fin 8) : Memref sig .tc .vmem S1024x128 .bf16 := (lbM.slice (lRect h) (fun _ => rfl)).squeeze S1024x128 squeezes_S1x1024x128_S1024x128

theorem rSl_set (h : Fin 9) : (rSl h).view.set = (rRect h).set := by
  show ((rbM.view.slice (rRect h)).reshape _ _).set = _
  rw [View.set_reshape]; exact View.set_slice_whole _ _
theorem lSl_set (h : Fin 8) : (lSl h).view.set = (lRect h).set := by
  show ((lbM.view.slice (lRect h)).reshape _ _).set = _
  rw [View.set_reshape]; exact View.set_slice_whole _ _

/-- What a transfer of one slot, of the queries, of the partial sums credits. -/
abbrev NK : ℕ := (rSl 1).view.dmaCredit
abbrev NQ : ℕ := qoM.view.dmaCredit
abbrev NS : ℕ := raM.view.dmaCredit
/-- What lane `x`'s transfer credits. -/
def amt (x : Fin 17) : ℕ := if x.val < 15 then NK else if x.val < 16 then NQ else NS
theorem amt_pos (x : Fin 17) : 0 < amt x := by
  unfold amt; split_ifs
  exacts [View.dmaCredit_pos _ (by decide), View.dmaCredit_pos _ (by decide), View.dmaCredit_pos _ (by decide)]

/-! ## Contents -/

variable (m : (ℓ : Loc nD τ sig) → Buf (Elt F) ℓ)

/-- Device `c`'s own queries, keys and values, as its pipeline stages them. -/
def qst (c : Dev nD) : Vec F S512x128 .bf16 := iblk m c 0 t0_0
def kst (c : Dev nD) : Vec F S512x128 .bf16 := iblk m c 1 t0_0
def vst (c : Dev nD) : Vec F S512x128 .bf16 := iblk m c 2 t0_0

/-- Its scaled queries; the queries it attends with, its own above its partner's. -/
def qsc (c : Dev nD) : Vec F S512x128 .bf16 := k0_pay7 (qst m c)
def qall (c : Dev nD) : FVec F S1024x128 .bf16 := k0_pay8 (qsc m c) (qsc m (far c))

/-- Device `d`'s keys and values as a slot carries them. -/
def kk (d : Dev nD) : Vec F S1x512x128 .bf16 := k0_pay3 (kst m d)
def vv (d : Dev nD) : Vec F S1x512x128 .bf16 := k0_pay4 (vst m d)

/-- Element `(r, l)` of device `d`'s slot: a key row above 512, a value row below. -/
def slotAt (d : Dev nD) (r : Fin 1024) (l : Fin 128) : Elt F .bf16 :=
  if h : r.val < 512 then kk m d (ix3 0 ⟨r.val, h⟩ l) else vv m d (ix3 0 ⟨r.val - 512, by have := r.isLt; omega⟩ l)

/-- What the right-going buffer of device `c` holds in the end: in slot `h` the keys and values of
    the device `h` places to the left; the left-going one those of the device `h` places to the right. -/
def rfin (c : Dev nD) : (cc0_scratch2 : Ref sig .tc).ty.Contents (Elt F) :=
  fun i : S9x1024x128.Idx => slotAt m (lft^[(i 0).val] c) (i 1) (i 2)
def lfin (c : Dev nD) : (cc0_scratch3 : Ref sig .tc).ty.Contents (Elt F) :=
  fun i : S8x1024x128.Idx => slotAt m (rgt^[(i 0).val] c) (i 1) (i 2)

/-- The device whose keys and values the `n`-th step folds in: left and right neighbours in turn. -/
def nth (c : Dev nD) (n : ℕ) : Dev nD := if n % 2 = 1 then lft^[(n + 1) / 2] c else rgt^[n / 2] c
/-- The accumulator of device `c` after `n` steps (numerators left of column 128, denominators right of it). -/
def acc (c : Dev nD) : ℕ → FVec F S1024x256 .f32
  | 0 => k0_pay10 (qsc m c) (qsc m (far c)) (kk m c) (vv m c)
  | n + 1 => k0_pay11 (qall m c) (k0_pay9 (F := F)) (acc c n) (kk m (nth c (n + 1))) (vv m (nth c (n + 1)))

/-- What device `c` hands its partner: the partner's rows of its accumulator. -/
def part (c : Dev nD) : Vec F S512x256 .bf16 :=
  k0_pay35 (qall m c) (k0_pay9 (F := F)) (acc m c 14) (kk m (lft^[8] c)) (vv m (lft^[8] c))
/-- The kernel's result on device `c`. -/
def outAt (c : Dev nD) : Vec F S512x128 .f32 :=
  k0_pay36 (qall m c) (k0_pay9 (F := F)) (acc m c 14) (kk m (lft^[8] c)) (vv m (lft^[8] c)) (part m (far c))

/-! ## Where a slot's elements sit, and what is read there -/

/-- The slot coordinates of a piece's element. -/
def unsq (z : S1024x128.Idx) : S1x1024x128.Idx :=
  Shape.reshapeEquiv (s := S1x1024x128) (s' := S1024x128) squeezes_S1x1024x128_S1024x128.numel_eq z

theorem rSl_emb (h : Fin 9) (z : S1024x128.Idx) : ((rSl h).view.emb z : S9x1024x128.Idx) = ix3 h (unsq z 1) (unsq z 2) := by
  have h0 : (unsq z 0).val = 0 := by have := (unsq z 0).isLt; change _ < 1 at this; omega
  funext a
  apply Fin.ext
  show (rRect h).off a + (rRect h).stride a * (unsq z a).val = _
  fin_cases a <;> simp [rRect, h0] <;> rfl

theorem lSl_emb (h : Fin 8) (z : S1024x128.Idx) : ((lSl h).view.emb z : S8x1024x128.Idx) = ix3 h (unsq z 1) (unsq z 2) := by
  have h0 : (unsq z 0).val = 0 := by have := (unsq z 0).isLt; change _ < 1 at this; omega
  funext a
  apply Fin.ext
  show (lRect h).off a + (lRect h).stride a * (unsq z a).val = _
  fin_cases a <;> simp [lRect, h0] <;> rfl

end Cert.RunIdeal
-- ==== Proof.Ideal.Sched.lean ====
/-
The schedule of the kernel's semaphores: who pays which cell, how much, and what comes with the payment.

Every cell has one round. A barrier cell is paid one unit each by the right neighbour, the left
neighbour and the partner; with its unit a device hands over the buffers it will receive into. A
transfer's receive cell brings the landed piece, its send cell returns the lent half of the source.
-/
module

public import proofs.«01_k».proof.Proof.Ideal.Cells

@[expose] public section

noncomputable section

namespace Cert.RunIdeal

open Cert.KernelIdeal Cert.KernelIdeal.Gen

open Idealize.ShloMosaic
open Idealize.ShloMosaic.TcCoe
open Idealize.ShloMosaic.ValueIdx (ix3)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ)

/-! ## Pieces -/

/-- Slot `h` of device `c`'s right-going buffer with its contents, at share `q`; the same of the left-going one. -/
def rPt (h : Fin 9) (q : PosShare TreeShare) (c : Dev nD) : sProp 𝕄 := (rbM.view.loc (c : Thread nD τ)) ↦[(rSl h).view.set]{q} rfin m c
def lPt (h : Fin 8) (q : PosShare TreeShare) (c : Dev nD) : sProp 𝕄 := (lbM.view.loc (c : Thread nD τ)) ↦[(lSl h).view.set]{q} lfin m c
def qmPt (q : PosShare TreeShare) (c : Dev nD) : sProp 𝕄 := (qmM.view.loc (c : Thread nD τ)) ↦{q} qsc m c
def saPt (q : PosShare TreeShare) (c : Dev nD) : sProp 𝕄 := (saM.view.loc (c : Thread nD τ)) ↦{q} part m c

abbrev half₁ : PosShare TreeShare := fullShare.left
abbrev half₂ : PosShare TreeShare := fullShare.right

/-- The half of lane `x`'s source that its transfer holds. -/
def srcPay (x : Fin 17) (c : Dev nD) : sProp 𝕄 :=
  if h : x.val < 8 then rPt m ⟨x.val, by omega⟩ half₁ c
  else if h : x.val < 15 then lPt m ⟨x.val - 8, by omega⟩ half₁ c
  else if x.val = 15 then qmPt m half₁ c else saPt m half₁ c

/-- What lands on device `c` on lane `x`. -/
def dstPay (x : Fin 17) (c : Dev nD) : sProp 𝕄 :=
  if h : x.val < 8 then iprop(rPt m ⟨x.val + 1, by omega⟩ half₁ c ∗ rPt m ⟨x.val + 1, by omega⟩ half₂ c)
  else if h : x.val < 15 then iprop(lPt m ⟨x.val - 8 + 1, by omega⟩ half₁ c ∗ lPt m ⟨x.val - 8 + 1, by omega⟩ half₂ c)
  else if x.val = 15 then (qoM.view.loc (c : Thread nD τ)) ↦{fullShare} qsc m (far c)
  else (raM.view.loc (c : Thread nD τ)) ↦{fullShare} part m (far c)

/-- Slot `h` of device `c`'s buffers, holding anything. -/
def rAny (h : Fin 9) (c : Dev nD) : sProp 𝕄 := iprop(∃ f : Buf (Elt F) (rbM.view.loc (c : Thread nD τ)), (rbM.view.loc (c : Thread nD τ)) ↦[(rSl h).view.set]{fullShare} f)
def lAny (h : Fin 8) (c : Dev nD) : sProp 𝕄 := iprop(∃ f : Buf (Elt F) (lbM.view.loc (c : Thread nD τ)), (lbM.view.loc (c : Thread nD τ)) ↦[(lSl h).view.set]{fullShare} f)

/-- The place on device `c` that lane `x` lands in, holding anything. -/
def dstAny (x : Fin 17) (c : Dev nD) : sProp 𝕄 :=
  if h : x.val < 8 then rAny ⟨x.val + 1, by omega⟩ c
  else if h : x.val < 15 then lAny ⟨x.val - 8 + 1, by omega⟩ c
  else if x.val = 15 then iprop(∃ f : Buf (Elt F) (qoM.view.loc (c : Thread nD τ)), (qoM.view.loc (c : Thread nD τ)) ↦{fullShare} f)
  else iprop(∃ f : Buf (Elt F) (raM.view.loc (c : Thread nD τ)), (raM.view.loc (c : Thread nD τ)) ↦{fullShare} f)

/-- The lanes a barrier duty opens: the right neighbour, the left one, the partner. -/
def lanes : Fin 3 → List (Fin 17) := ![[0, 1, 2, 3, 4, 5, 6, 7], [8, 9, 10, 11, 12, 13, 14], [15, 16]]

/-- What device `c`'s barrier cell gets with duty `d`: the places its own lanes land in. -/
def barPay (d : Fin 3) (c : Dev nD) : sProp 𝕄 := bigSepL (lanes d) fun x => dstAny (F := F) x (peer x c)

instance srcPay_storable (x : Fin 17) (c : Dev nD) : BI.Storable (upEmb : UEmb _ 𝕄) (srcPay m x c) := by
  unfold srcPay rPt lPt qmPt saPt; (repeat' split) <;> infer_instance
instance dstPay_storable (x : Fin 17) (c : Dev nD) : BI.Storable (upEmb : UEmb _ 𝕄) (dstPay m x c) := by
  unfold dstPay rPt lPt; (repeat' split) <;> infer_instance
instance dstAny_storable (x : Fin 17) (c : Dev nD) : BI.Storable (upEmb : UEmb _ 𝕄) (dstAny (F := F) x c) := by
  unfold dstAny rAny lAny; (repeat' split) <;> infer_instance
theorem storable_list {α : Type} (l : List α) (Φ : α → sProp 𝕄) (h : ∀ x, BI.Storable (upEmb : UEmb _ 𝕄) (Φ x)) :
    BI.Storable (upEmb : UEmb _ 𝕄) (bigSepL l Φ) := by
  induction l with
  | nil => show BI.Storable _ (iprop(emp) : sProp 𝕄); infer_instance
  | cons x l ih => rw [bigSepL_cons]; have := h x; show BI.Storable _ (iprop(Φ x ∗ bigSepL l Φ)); infer_instance
instance barPay_storable (d : Fin 3) (c : Dev nD) : BI.Storable (upEmb : UEmb _ 𝕄) (barPay (F := F) d c) := by
  unfold barPay; exact storable_list _ _ fun x => dstAny_storable x _

/-! ## The schedule -/

/-- Which lane a DMA semaphore belongs to, and on which side (`true`: its receive semaphore). -/
def laneOf : DmaSem sig → Option (Bool × Fin 17) :=
  ![none, none, none, none, some (false, 15), some (true, 15),
    none, some (false, 0), some (false, 1), some (false, 2), some (false, 3), some (false, 4), some (false, 5), some (false, 6), some (false, 7),
    none, some (true, 0), some (true, 1), some (true, 2), some (true, 3), some (true, 4), some (true, 5), some (true, 6), some (true, 7),
    none, some (false, 8), some (false, 9), some (false, 10), some (false, 11), some (false, 12), some (false, 13), some (false, 14),
    none, some (true, 8), some (true, 9), some (true, 10), some (true, 11), some (true, 12), some (true, 13), some (true, 14),
    some (false, 16), some (true, 16)]
theorem laneOf_s (x : Fin 17) : laneOf (sN x) = some (false, x) := by revert x; decide
theorem laneOf_r (x : Fin 17) : laneOf (rN x) = some (true, x) := by revert x; decide

/-- A cell's duties in its one round. -/
def dutiesOf : SemLoc sig → Finset (Fin 3)
  | .reg s => if s = barS then Finset.univ else ∅
  | .dma n => if (laneOf n).isSome then {0} else ∅
/-- A cell's payments. -/
def amtO : Option (Bool × Fin 17) → ℕ
  | some (_, x) => amt x
  | none => 1
def amountOf : SemLoc sig → ℕ
  | .reg _ => 1
  | .dma n => amtO (laneOf n)
/-- What comes with them. -/
def payO (c : Dev nD) : Option (Bool × Fin 17) → sProp 𝕄
  | some (false, x) => srcPay m x c
  | some (true, x) => dstPay m x c
  | none => iprop(emp)
def payOf (c : Dev nD) (d : Fin 3) : SemLoc sig → sProp 𝕄
  | .reg _ => barPay (F := F) d c
  | .dma n => payO m c (laneOf n)

instance payOf_storable (c : Dev nD) (d : Fin 3) (s : SemLoc sig) : BI.Storable (upEmb : UEmb _ 𝕄) (payOf m c d s) := by
  unfold payOf payO; (repeat' split) <;> infer_instance

def Rd : Rounds.Schedule (GSem nD τ sig) (Fin 3) 𝕄 where
  duties g r := if r = 0 ∧ g.1.2 = .tc then dutiesOf g.2 else ∅
  unitless _ := False
  amount g _ _ := amountOf g.2
  payload g _ d := payOf m g.1.1 d g.2
  amount_pos g _ _ _ := by
    unfold amountOf amtO
    split
    · exact Nat.one_pos
    · split
      · exact amt_pos _
      · exact Nat.one_pos

instance Rd_storable (g : GSem nD τ sig) (r : ℕ) (d : Fin 3) : BI.Storable (upEmb : UEmb _ 𝕄) ((Rd m).payload g r d) := by
  show BI.Storable _ (payOf m g.1.1 d g.2); infer_instance

section Tables
variable (x : Fin 17) (c : Dev nD)

theorem duties_bar : (Rd m).duties (barCell c) 0 = Finset.univ := rfl
theorem duties_s : (Rd m).duties (sCell x c) 0 = {0} := by
  show (if (laneOf (sN x)).isSome then {0} else ∅) = _; rw [laneOf_s]; rfl
theorem duties_r : (Rd m).duties (rCell x c) 0 = {0} := by
  show (if (laneOf (rN x)).isSome then {0} else ∅) = _; rw [laneOf_r]; rfl
theorem duties_later (g : GSem nD τ sig) : ∀ r, 1 ≤ r → (Rd m).duties g r = ∅ :=
  fun r hr => if_neg fun h => by omega

theorem amount_bar (d : Fin 3) : (Rd m).amount (barCell c) 0 d = 1 := rfl
theorem amount_s (d : Fin 3) : (Rd m).amount (sCell x c) 0 d = amt x := by
  show amtO (laneOf (sN x)) = _; rw [laneOf_s]; rfl
theorem amount_r (d : Fin 3) : (Rd m).amount (rCell x c) 0 d = amt x := by
  show amtO (laneOf (rN x)) = _; rw [laneOf_r]; rfl

theorem expect_bar : (Rd m).expect (barCell c) 0 = 3 := by
  unfold Schedule.expect Schedule.amountOf
  rw [duties_bar, Finset.sum_congr rfl fun d _ => amount_bar m c d]; rfl
theorem expect_s : (Rd m).expect (sCell x c) 0 = amt x := by
  unfold Schedule.expect Schedule.amountOf; rw [duties_s, Finset.sum_singleton, amount_s]
theorem expect_r : (Rd m).expect (rCell x c) 0 = amt x := by
  unfold Schedule.expect Schedule.amountOf; rw [duties_r, Finset.sum_singleton, amount_r]

theorem payload_bar (d : Fin 3) : (Rd m).payload (barCell c) 0 d = barPay d c := rfl
theorem payload_s (d : Fin 3) : (Rd m).payload (sCell x c) 0 d = srcPay m x c := by
  show payO m c (laneOf (sN x)) = _; rw [laneOf_s]; rfl
theorem payload_r (d : Fin 3) : (Rd m).payload (rCell x c) 0 d = dstPay m x c := by
  show payO m c (laneOf (rN x)) = _; rw [laneOf_r]; rfl

theorem rest_bar : bigSep ((Rd m).duties (barCell c) 0 \ ∅) (fun d => (Rd m).payload (barCell c) 0 d) = iprop(barPay 0 c ∗ barPay 1 c ∗ barPay 2 c) := by
  rw [Finset.sdiff_empty, duties_bar, bigSep_univ_eq_bigSepL [0, 1, 2] (by decide) (by decide), bigSepL_cons_cons, bigSepL_cons_cons, bigSepL_singleton]
  rfl
theorem rest_s : bigSep ((Rd m).duties (sCell x c) 0 \ ∅) (fun d => (Rd m).payload (sCell x c) 0 d) = srcPay m x c := by
  rw [Finset.sdiff_empty, duties_s, bigSep_singleton, payload_s]
theorem rest_r : bigSep ((Rd m).duties (rCell x c) 0 \ ∅) (fun d => (Rd m).payload (rCell x c) 0 d) = dstPay m x c := by
  rw [Finset.sdiff_empty, duties_r, bigSep_singleton, payload_r]

end Tables

/-! ## What a device owes, and the levels -/

/-- The lanes in the order they are sent (each is received in the same order). -/
def order : List (Fin 17) := [15, 0, 8, 1, 9, 2, 10, 3, 11, 4, 12, 5, 13, 6, 14, 7, 16]

/-- What device `c` still owes when the lanes of a list are to be sent: each receiver's credit. -/
def owedL (c : Dev nD) : List (Fin 17) → CellTallies nD τ sig Unit
  | [] => 0
  | x :: l => owedL c l + tallyAt (rCell x (peer x c)) () (amt x)
def O₂ (c : Dev nD) : CellTallies nD τ sig Unit := owedL c order + tallyAt (barCell (far c)) () 1
def O₁ (c : Dev nD) : CellTallies nD τ sig Unit := O₂ c + tallyAt (barCell (rgt c)) () 1
/-- At launch: that, and a unit for each of the three barrier cells it signals. -/
def O₀ (c : Dev nD) : CellTallies nD τ sig Unit := O₁ c + tallyAt (barCell (lft c)) () 1

theorem tally_pos {g g' : GSem nD τ sig} {u u' : Unit} {k : ℕ} (h : 0 < tallyAt g' u' k g u) : g = g' := by
  rw [tallyAt_apply] at h
  by_contra hn
  rw [if_neg (fun h' => hn h'.1)] at h
  exact Nat.lt_irrefl 0 h

theorem owedL_pos {c : Dev nD} {g : GSem nD τ sig} {u : Unit} : ∀ {l : List (Fin 17)}, 0 < owedL c l g u → ∃ x ∈ l, g = rCell x (peer x c)
  | [], h => absurd h (Nat.lt_irrefl 0)
  | x :: l, h => by
    unfold owedL at h
    rw [Pi.add_apply, Finsupp.add_apply] at h
    rcases Nat.eq_zero_or_pos (tallyAt (rCell x (peer x c)) () (amt x) g u) with h0 | h0
    · rw [h0, Nat.add_zero] at h
      obtain ⟨y, hy, e⟩ := owedL_pos h
      exact ⟨y, List.mem_cons_of_mem _ hy, e⟩
    · exact ⟨x, List.mem_cons_self, tally_pos h0⟩

theorem O₀_pos {c : Dev nD} {g : GSem nD τ sig} {u : Unit} (h : 0 < O₀ c g u) :
    (∃ x, g = rCell x (peer x c)) ∨ ∃ d, g = barCell d := by
  unfold O₀ O₁ O₂ at h
  rw [Pi.add_apply, Finsupp.add_apply, Pi.add_apply, Finsupp.add_apply, Pi.add_apply, Finsupp.add_apply] at h
  rcases Nat.eq_zero_or_pos (tallyAt (barCell (lft c)) () 1 g u) with h1 | h1
  · rcases Nat.eq_zero_or_pos (tallyAt (barCell (rgt c)) () 1 g u) with h2 | h2
    · rcases Nat.eq_zero_or_pos (tallyAt (barCell (far c)) () 1 g u) with h3 | h3
      · rw [h1, h2, h3] at h
        have h' : 0 < owedL c order g u := h
        obtain ⟨x, -, e⟩ := owedL_pos h'
        exact .inl ⟨x, e⟩
      · exact .inr ⟨_, tally_pos h3⟩
    · exact .inr ⟨_, tally_pos h2⟩
  · exact .inr ⟨_, tally_pos h1⟩

def L (g : GSem nD τ sig) : Finset Unit := if g.1.2 = .tc then {()} else ∅
theorem L_of_ne (g : GSem nD τ sig) (h : g.1.2 ≠ .tc) : L g = ∅ := if_neg h
theorem L_tc (c : Dev nD) (sm : SemLoc sig) : L ((c : Thread nD τ), sm) = {()} := if_pos rfl

/-- A lane's place in that order. -/
def lvl (x : Fin 17) : ℕ := ![1, 3, 5, 7, 9, 11, 13, 15, 2, 4, 6, 8, 10, 12, 14, 0, 16] x + 2
/-- Barrier cells at 1, receive cells above them in the order of the lanes, everything else at 0. -/
def lvO : Option (Bool × Fin 17) → ℕ
  | some (true, x) => lvl x
  | _ => 0
def lvOf : SemLoc sig → ℕ
  | .reg s => if s = barS then 1 else 0
  | .dma n => lvO (laneOf n)
def lv (g : GSem nD τ sig) (_ : Unit) : ℕ := lvOf g.2

theorem lv_bar (c : Dev nD) : lv (barCell c) () = 1 := rfl
theorem lv_r (x : Fin 17) (c : Dev nD) : lv (rCell x c) () = lvl x := by
  show lvO (laneOf (rN x)) = _; rw [laneOf_r]; rfl
theorem lvl_pos (x : Fin 17) : 1 < lvl x := by unfold lvl; omega

theorem mem_L (c : Dev nD) (sm : SemLoc sig) : () ∈ L ((c : Thread nD τ), sm) := by rw [L_tc]; exact Finset.mem_singleton_self _

/-- A wait at a cell below every lane still to be sent is allowed. -/
theorem mayWait_lanes (c : Dev nD) (sm : SemLoc sig) (l : List (Fin 17)) (hl : ∀ y ∈ l, lvOf sm < lvl y) :
    (levAts L lv : sProp 𝕄) ⊢ MayWait (c : Thread nD τ) sm () (owedL c l) :=
  MayOwe.of_cut (L := L) (lev := lv) (lvOf sm) (fun p hp => by rw [Finset.mem_singleton.mp hp]; exact mem_L c sm)
    (fun g u hg => by obtain ⟨y, -, rfl⟩ := owedL_pos hg; exact mem_L _ _)
    (fun p hp => by rw [Finset.mem_singleton.mp hp]; exact le_refl _)
    (fun g u hg => by obtain ⟨y, hy, rfl⟩ := owedL_pos hg; rw [lv_r]; exact hl y hy)

theorem mayWait_stage (c : Dev nD) (q : DmaSem sig) (hq : laneOf q = none) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp]; exact mem_L c _)
      (fun g u hg => by rcases O₀_pos hg with ⟨x, rfl⟩ | ⟨d, rfl⟩ <;> exact mem_L _ _)
      (fun p hp => by rw [Finset.mem_singleton.mp hp]; show lvO (laneOf q) ≤ 0; rw [hq]; exact le_refl _)
      (fun g u hg => by
        rcases O₀_pos hg with ⟨x, rfl⟩ | ⟨d, rfl⟩
        · rw [lv_r]; exact lt_trans Nat.one_pos (lvl_pos x)
        · exact Nat.one_pos)
  · rw [MayWait_zero]; iintro -; iempintro

end Cert.RunIdeal
-- ==== Proof.Ideal.Steps.lean ====
/-
The kernel's steps, each as one rule: a transfer, a wait for a landing, a wait for a departure.

A rule takes the head of the lists of what is still to do and puts it on the lists of what is done.
-/
module

public import proofs.«01_k».proof.Proof.Ideal.Sched

@[expose] public section

noncomputable section

namespace Cert.RunIdeal

open Cert.KernelIdeal Cert.KernelIdeal.Gen

open Idealize.ShloMosaic
open Idealize.ShloMosaic.TcCoe
open Idealize.ShloMosaic.ValueIdx (ix3 eq_ix3)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ)

/-! ## The cells and what is known of them throughout -/

abbrev CI : Type := Option (Bool × Fin 17)
def csem : CI → SemLoc sig
  | none => .reg barS
  | some (false, x) => .dma (sN x)
  | some (true, x) => .dma (rN x)
abbrev kcell (p : Dev nD × CI) : GSem nD τ sig := ((p.1 : Thread nD τ), csem p.2)

/-- Every cell's invariant, under its name, and that its round 0 is reached. -/
def records (K : Dev nD × CI → ℕ) : sProp 𝕄 :=
  iprop((bigSep Finset.univ fun p : Dev nD × CI => cellInv ER (Rd m) (K p) (kcell p))
    ∗ bigSep Finset.univ fun p : Dev nD × CI => reached ER (kcell p) 0)

instance records_persistent (K : Dev nD × CI → ℕ) : BI.Persistent (records m K) := by unfold records; infer_instance

variable (K : Dev nD × CI → ℕ)

theorem inv_at (p : Dev nD × CI) : records m K ⊢ cellInv ER (Rd m) (K p) (kcell p) := by
  unfold records
  iintro ⟨H, -⟩
  iapply (show (bigSep Finset.univ fun p : Dev nD × CI => (cellInv ER (Rd m) (K p) (kcell p) : sProp 𝕄)) ⊢ cellInv ER (Rd m) (K p) (kcell p) from bigSep_elim (Finset.mem_univ p))
  iexact H
theorem reached_at (p : Dev nD × CI) : records m K ⊢ reached ER (kcell p) 0 := by
  unfold records
  iintro ⟨-, H⟩
  iapply (show (bigSep Finset.univ fun p : Dev nD × CI => (reached ER (kcell p) 0 : sProp 𝕄)) ⊢ reached ER (kcell p) 0 from bigSep_elim (Finset.mem_univ p))
  iexact H

/-! ## Lists of what is still to do and what is done -/

theorem list_cons {α : Type} (x : α) (l : List α) (Φ : α → sProp 𝕄) : bigSepL (x :: l) Φ = iprop(Φ x ∗ bigSepL l Φ) := bigSepL_cons x l Φ

/-- What device `c` owes, whatever it has waited for. -/
def owesE (c : Dev nD) (O : CellTallies nD τ sig Unit) : sProp 𝕄 := iprop(∃ W, owes (c : Thread nD τ) O W)
/-- Lanes to send: the tokens of both ends, and the place in the send cell's round. -/
def tokS (c : Dev nD) (l : List (Fin 17)) : sProp 𝕄 := bigSepL l fun x =>
  iprop(dutyTok ER (sCell x c) 0 0 ∗ dutyTok ER (rCell x (peer x c)) 0 0 ∗ atPos ER (sCell x c) 0 ∅ 0)
/-- and where they land. -/
def dstL (c : Dev nD) (l : List (Fin 17)) : sProp 𝕄 := bigSepL l fun x => dstAny (F := F) x (peer x c)
/-- Lanes to receive. -/
def todoR (c : Dev nD) (l : List (Fin 17)) : sProp 𝕄 := bigSepL l fun x =>
  iprop(cred (tallyAt (rCell x c) () (amt x)) ∗ atPos ER (rCell x c) 0 ∅ 0)
/-- Lanes sent, not yet waited for. -/
def doneS (c : Dev nD) (l : List (Fin 17)) : sProp 𝕄 := bigSepL l fun x =>
  iprop(cred (tallyAt (sCell x c) () (amt x)) ∗ atPos ER (sCell x c) 0 ∅ 0)
/-- Lanes received. -/
def doneR (c : Dev nD) (l : List (Fin 17)) : sProp 𝕄 := bigSepL l fun x => semVal (rCell x c) 0
/-- Lanes sent and waited for. -/
def doneF (c : Dev nD) (l : List (Fin 17)) : sProp 𝕄 := bigSepL l fun x => iprop(semVal (sCell x c) 0 ∗ srcPay m x c)
/-- Slots that are kept readable: the half no transfer holds. -/
def keptR (c : Dev nD) (l : List (Fin 9)) : sProp 𝕄 := bigSepL l fun h => rPt m h half₂ c
def keptL (c : Dev nD) (l : List (Fin 8)) : sProp 𝕄 := bigSepL l fun h => lPt m h half₂ c

abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## Transfers -/

/-- Lane `x`'s transfer, its source and destination given with what they hold. -/
theorem send_step (c n : Dev nD) (x : Fin 17) (hn : n = peer x c) {s : Shape} {e : EltTy}
    {src dst : Memref sig .tc .vmem s e} {hsc : (dst : Memref sig (Dev.tc n : Thread nD τ).2.kind .vmem s e).view.ref.isScScratch = false}
    {hsrc : src.view.WordExact} {hdst : dst.view.WordExact}
    {hsem : DmaTarget.Typed .vmem (.dma (rN x)) (.remote (Dev.tc n : Thread nD τ) dst (.dma (sN x)) hsc)}
    {α : Type} {Q : α → sProp 𝕄} {k : PUnit → Prog (TpuEff nD τ sig (Elt F) Λ₀ .tc) α}
    (fs : Buf (Elt F) (src.view.loc (c : Thread nD τ)))
    (h₁ : srcPay m x c = (src.view.loc (c : Thread nD τ) ↦[src.view.set]{half₁} fs))
    (h₂ : dstAny x (peer x c) = iprop(∃ fd : Buf (Elt F) (dst.view.loc (peer x c : Thread nD τ)), dst.view.loc (peer x c : Thread nD τ) ↦[dst.view.set]{fullShare} fd))
    (hland : ∀ fd : Buf (Elt F) (dst.view.loc (peer x c : Thread nD τ)),
      (dst.view.loc (peer x c : Thread nD τ) ↦[dst.view.set]{fullShare} dst.view.write (Elt F) fd (src.view.read (Elt F) fs) Finset.univ) ⊢ dstPay m x (peer x c))
    (hN : dst.view.dmaCredit = amt x) (l d : List (Fin 17)) :
    iprop(records m K ∗ owesE c (owedL c (x :: l)) ∗ tokS c (x :: l) ∗ dstL c (x :: l) ∗ doneS c d ∗ srcPay m x c)
      ⊢ iprop(((owesE c (owedL c l) ∗ tokS c l ∗ dstL c l ∗ doneS c (x :: d)) -∗ WP c (k ⟨⟩) Q)
          -∗ WP c (.op (.enqueueDma src (.remote (Dev.tc n : Thread nD τ) dst (.dma (sN x)) hsc) (.dma (rN x)) hsrc hdst hsem) k) Q) := by
  subst hn
  unfold owesE tokS dstL doneS
  rw [list_cons, list_cons, list_cons, h₁, h₂]
  iintro ⟨#HR, ⟨%W, HO⟩, ⟨⟨Ht₁, Ht₂, Hat⟩, Htok⟩, ⟨⟨%fd, Hd⟩, Hds⟩, Hdone, Hs⟩ Hk
  iapply (Rounds.wp_send_pointsTo 𝒱₀ ER (Rd m) (c : Thread nD τ) none (κ₁ := K (c, some (false, x))) (κ₂ := K (peer x c, some (true, x)))
    (r₁ := 0) (r₂ := 0) (d₁ := 0) (d₂ := 0) (fd := fd) (fs := fs) (q := half₁) (sem := .dma (rN x)) (sS := .dma (sN x))
    (by rw [duties_s]; exact Finset.mem_singleton_self _) (by rw [duties_r]; exact Finset.mem_singleton_self _)
    () () (amt x) hN (amount_s m x c 0) (amount_r m x (peer x c) 0) (owedL c l) rfl (W := W)
    (by rw [payload_s, h₁]) (by rw [payload_r]; exact hland fd)) $$ [HO Ht₁ Ht₂ Hd Hs]
  · isplitr; · iapply (inv_at m K (c, some (false, x))); iexact HR
    isplitr; · iapply (inv_at m K (peer x c, some (true, x))); iexact HR
    isplitl [Hs]; · iexact Hs
    isplitl [Hd]; · iexact Hd
    isplitl [HO]; · iexact HO
    isplitl [Ht₁]; · iexact Ht₁
    isplitr; · iapply (reached_at m K (c, some (false, x))); iexact HR
    isplitl [Ht₂]; · iexact Ht₂
    iapply (reached_at m K (peer x c, some (true, x))); iexact HR
  iintro ⟨Hc, HO⟩
  iapply Hk
  isplitl [HO]; · iexists W; iexact HO
  isplitl [Htok]; · iexact Htok
  isplitl [Hds]; · iexact Hds
  isplitl [Hc Hat]
  · isplitl [Hc] <;> iassumption
  iexact Hdone

/-! ## Waits -/

/-- A wait for lane `x`'s landing, the lanes of `l` still to be sent all later than it: what landed, and the cell closed. -/
theorem recv_step (c : Dev nD) (x : Fin 17) {s s' : Shape} {e e' : EltTy} {src : Memref sig .tc .vmem s e} {dst : Memref sig .tc .vmem s' e'}
    {hsrc : src.view.WordExact} {hdst : dst.view.WordExact}
    {α : Type} {Q : α → sProp 𝕄} {k : PUnit → Prog (TpuEff nD τ sig (Elt F) Λ₀ .tc) α}
    (hN : dst.view.dmaCredit = amt x) (l r d : List (Fin 17)) (hl : ∀ y ∈ l, lvl x < lvl y) :
    iprop(records m K ∗ levAts L lv ∗ owesE c (owedL c l) ∗ todoR c (x :: r) ∗ doneR c d)
      ⊢ iprop(((owesE c (owedL c l) ∗ todoR c r ∗ doneR c (x :: d) ∗ dstPay m x c) -∗ WP c (k ⟨⟩) Q)
          -∗ WP c (.op (.waitDma2 (rN x) src dst hsrc hdst) k) Q) := by
  unfold owesE todoR doneR
  rw [list_cons, list_cons]
  iintro ⟨#HR, #Hlev, ⟨%W, HO⟩, ⟨⟨Hc, Hat⟩, Hr⟩, Hd⟩ Hk
  iapply (Rounds.wp_wait_rest_token 𝒱₀ ER (Rd m) (c : Thread nD τ) none (κ := K (c, some (true, x))) (sm := .dma (rN x)) (k' := amt x)
      (fun Kt => (wpE_waitDma2_eq 𝒱₀ (c : Thread nD τ) none Set.univ Kt).trans (by rw [hN])) (Set.mem_univ _) () (O := owedL c l) (W := W) (R := 0) (m := 0) (T := ∅)
      (by rw [Nat.zero_add]; exact (expect_r m x c).symm)) $$ [Hc HO Hat]
  · isplitr; · iapply (inv_at m K (c, some (true, x))); iexact HR
    isplitl [Hc]; · iexact Hc
    isplitl [HO]; · iexact HO
    isplitr; · iapply (mayWait_lanes c (.dma (rN x)) l (fun y hy => by have := lv_r x c; exact lt_of_eq_of_lt this (hl y hy))); iexact Hlev
    iexact Hat
  iintro ⟨HO, Hat, -, Hpay⟩
  ihave Hp := (Entails.of_eq (rest_r m x c)) $$ Hpay
  imod (Rounds.cell_close ER (Rd m) (Set.mem_univ (K (c, some (true, x)))) (fun h => h) (R := 0 + 1) (duties_later m (rCell x c))) $$ [Hat] with Hz
  · isplitr; · iapply (inv_at m K (c, some (true, x))); iexact HR
    iexact Hat
  iapply Hk
  isplitl [HO]; · iexists _; iexact HO
  isplitl [Hr]; · iexact Hr
  isplitl [Hz Hd]
  · isplitl [Hz] <;> iassumption
  iexact Hp

/-- A wait for lane `x`'s departure, nothing owed: the lent half of the source back, and the cell closed. -/
theorem sent_step (c : Dev nD) (x : Fin 17) {s s' : Shape} {e e' : EltTy} {src : Memref sig .tc .vmem s e} {dst : Memref sig .tc .vmem s' e'}
    {hsrc : src.view.WordExact} {hdst : dst.view.WordExact}
    {α : Type} {Q : α → sProp 𝕄} {k : PUnit → Prog (TpuEff nD τ sig (Elt F) Λ₀ .tc) α}
    (hN : dst.view.dmaCredit = amt x) (r d : List (Fin 17)) :
    iprop(records m K ∗ owesE c 0 ∗ doneS c (x :: r) ∗ doneF m c d)
      ⊢ iprop(((owesE c 0 ∗ doneS c r ∗ doneF m c (x :: d)) -∗ WP c (k ⟨⟩) Q)
          -∗ WP c (.op (.waitDma2 (sN x) src dst hsrc hdst) k) Q) := by
  unfold owesE doneS doneF
  rw [list_cons, list_cons]
  iintro ⟨#HR, ⟨%W, HO⟩, ⟨⟨Hc, Hat⟩, Hr⟩, Hd⟩ Hk
  iapply (Rounds.wp_wait_rest_token 𝒱₀ ER (Rd m) (c : Thread nD τ) none (κ := K (c, some (false, x))) (sm := .dma (sN x)) (k' := amt x)
      (fun Kt => (wpE_waitDma2_eq 𝒱₀ (c : Thread nD τ) none Set.univ Kt).trans (by rw [hN])) (Set.mem_univ _) () (O := 0) (W := W) (R := 0) (m := 0) (T := ∅)
      (by rw [Nat.zero_add]; exact (expect_s m x c).symm)) $$ [Hc HO Hat]
  · isplitr; · iapply (inv_at m K (c, some (false, x))); iexact HR
    isplitl [Hc]; · iexact Hc
    isplitl [HO]; · iexact HO
    isplitr; · rw [MayWait_zero]; iempintro
    iexact Hat
  iintro ⟨HO, Hat, -, Hpay⟩
  ihave Hp := (Entails.of_eq (rest_s m x c)) $$ Hpay
  imod (Rounds.cell_close ER (Rd m) (Set.mem_univ (K (c, some (false, x)))) (fun h => h) (R := 0 + 1) (duties_later m (sCell x c))) $$ [Hat] with Hz
  · isplitr; · iapply (inv_at m K (c, some (false, x))); iexact HR
    iexact Hat
  iapply Hk
  isplitl [HO]; · iexists _; iexact HO
  isplitl [Hr]; · iexact Hr
  isplitl [Hz Hp]
  · isplitl [Hz] <;> iassumption
  iexact Hd

end Cert.RunIdeal
-- ==== Proof.Ideal.Moves.lean ====
/-
The kernel's four kinds of transfer, and what its loads and stores of a slot read and write.
-/
module

public import proofs.«01_k».proof.Proof.Ideal.Steps

@[expose] public section

noncomputable section

namespace Cert.RunIdeal

open Cert.KernelIdeal Cert.KernelIdeal.Gen

open Idealize.ShloMosaic
open Idealize.ShloMosaic.TcCoe
open Idealize.ShloMosaic.ValueIdx (ix3 eq_ix3)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ)
variable (K : Dev nD × CI → ℕ)

/-! ## Shares -/

theorem halves {ℓ : Loc nD τ sig} {I : Finset (Idx ℓ)} {f : Buf (Elt F) ℓ} :
    (ℓ ↦[I]{fullShare} f : sProp 𝕄) ⊣⊢ iprop((ℓ ↦[I]{half₁} f) ∗ ℓ ↦[I]{half₂} f) :=
  pointsTo_share (PosShare.mem_left_op_right fullShare)

/-! ## The ring to the right -/

/-- The contents of slot `h + 1` on the neighbour are those of slot `h` here. -/
theorem land_r (c : Dev nD) (h h' : Fin 9) (hh : h'.val = h.val + 1) (fd : Buf (Elt F) ((rSl h').view.loc (rgt c : Thread nD τ))) :
    ∀ i ∈ (rSl h').view.set, (rSl h').view.write (Elt F) fd ((rSl h).view.read (Elt F) (rfin m c)) Finset.univ i = rfin m (rgt c) i := by
  intro i hi
  obtain ⟨z, -, rfl⟩ := Finset.mem_map.mp hi
  rw [View.write_emb_of_mem _ _ (Finset.mem_univ z)]
  show rfin m c ((rSl h).view.emb z) = rfin m (rgt c) ((rSl h').view.emb z)
  rw [rSl_emb, rSl_emb]
  show slotAt m (lft^[h.val] c) _ _ = slotAt m (lft^[h'.val] (rgt c)) _ _
  rw [hh, Function.iterate_succ_apply, lft_rgt]

theorem land_r_pts (c : Dev nD) (h h' : Fin 9) (hh : h'.val = h.val + 1) (fd : Buf (Elt F) ((rSl h').view.loc (rgt c : Thread nD τ))) :
    ((rSl h').view.loc (rgt c : Thread nD τ) ↦[(rSl h').view.set]{fullShare} (rSl h').view.write (Elt F) fd ((rSl h).view.read (Elt F) (rfin m c)) Finset.univ : sProp 𝕄)
      ⊢ iprop(rPt m h' half₁ (rgt c) ∗ rPt m h' half₂ (rgt c)) :=
  (Entails.of_eq (pointsTo_congr (land_r m c h h' hh fd))).trans halves.1

/-- Lane `x`, from slot `h` to the neighbour's slot `h + 1`. -/
theorem send_r (c n : Dev nD) (x : Fin 17) (h h' : Fin 9) (hn : n = rgt c) (hp : peer x c = rgt c) (hh : h'.val = h.val + 1)
    (h₁ : srcPay m x c = rPt m h half₁ c) (h₂ : dstAny (F := F) x (rgt c) = rAny h' (rgt c))
    (h₃ : dstPay m x (rgt c) = iprop(rPt m h' half₁ (rgt c) ∗ rPt m h' half₂ (rgt c))) (hN : (rSl h').view.dmaCredit = amt x)
    {hsc : (rSl h' : Memref sig (Dev.tc n : Thread nD τ).2.kind .vmem S1024x128 .bf16).view.ref.isScScratch = false}
    {hsrc : (rSl h).view.WordExact} {hdst : (rSl h').view.WordExact}
    {hsem : DmaTarget.Typed .vmem (.dma (rN x)) (.remote (Dev.tc n : Thread nD τ) (rSl h') (.dma (sN x)) hsc)}
    {α : Type} {Q : α → sProp 𝕄} {k : PUnit → Prog (TpuEff nD τ sig (Elt F) Λ₀ .tc) α} (l d : List (Fin 17)) :
    iprop(records m K ∗ owesE c (owedL c (x :: l)) ∗ tokS c (x :: l) ∗ dstL c (x :: l) ∗ doneS c d ∗ rPt m h half₁ c)
      ⊢ iprop(((owesE c (owedL c l) ∗ tokS c l ∗ dstL c l ∗ doneS c (x :: d)) -∗ WP c (k ⟨⟩) Q)
          -∗ WP c (.op (.enqueueDma (rSl h) (.remote (Dev.tc n : Thread nD τ) (rSl h') (.dma (sN x)) hsc) (.dma (rN x)) hsrc hdst hsem) k) Q) := by
  rw [← h₁]
  rw [← hp] at hn h₂ h₃
  exact send_step m K c n x hn (src := rSl h) (dst := rSl h') (rfin m c) h₁ h₂
    (fun fd => by rw [h₃]; revert fd; rw [hp]; exact fun fd => land_r_pts m c h h' hh fd) hN l d

/-- The wait for the landing in slot `h`: a half to send on, a half kept. -/
theorem recv_r (c : Dev nD) (x : Fin 17) (h : Fin 9) (h₃ : dstPay m x c = iprop(rPt m h half₁ c ∗ rPt m h half₂ c))
    {s s' : Shape} {e e' : EltTy} {src : Memref sig .tc .vmem s e} {dst : Memref sig .tc .vmem s' e'}
    {hsrc : src.view.WordExact} {hdst : dst.view.WordExact}
    {α : Type} {Q : α → sProp 𝕄} {k : PUnit → Prog (TpuEff nD τ sig (Elt F) Λ₀ .tc) α}
    (hN : dst.view.dmaCredit = amt x) (l r d : List (Fin 17)) (ks : List (Fin 9)) (hl : ∀ y ∈ l, lvl x < lvl y) :
    iprop(records m K ∗ levAts L lv ∗ owesE c (owedL c l) ∗ todoR c (x :: r) ∗ doneR c d ∗ keptR m c ks)
      ⊢ iprop(((owesE c (owedL c l) ∗ todoR c r ∗ doneR c (x :: d) ∗ rPt m h half₁ c ∗ keptR m c (h :: ks)) -∗ WP c (k ⟨⟩) Q)
          -∗ WP c (.op (.waitDma2 (rN x) src dst hsrc hdst) k) Q) := by
  iintro ⟨HR, Hlev, HO, Ht, Hd, Hks⟩ Hk
  iapply (recv_step m K c x hN l r d hl) $$ [HR Hlev HO Ht Hd]
  · isplitl [HR]; · iexact HR
    isplitl [Hlev]; · iexact Hlev
    isplitl [HO]; · iexact HO
    isplitl [Ht] <;> iassumption
  iintro ⟨HO, Ht, Hd, Hp⟩
  ihave Hp := (Entails.of_eq h₃) $$ Hp
  icases Hp with ⟨H₁, H₂⟩
  iapply Hk
  isplitl [HO]; · iexact HO
  isplitl [Ht]; · iexact Ht
  isplitl [Hd]; · iexact Hd
  isplitl [H₁]; · iexact H₁
  unfold keptR
  rw [list_cons]
  isplitl [H₂] <;> iassumption

/-- What a load of the upper half of slot `h` reads, and one of the lower half. -/
theorem read_rk (c : Dev nD) (h : ℕ) (inb : ∀ a, (![h, 0, 0] : Fin 3 → ℕ) a + S1x512x128.size a ≤ S9x1024x128.size a) :
    (rbM).view.readAt (Elt F) (Rect.unit (s := S9x1024x128) ![h, 0, 0] S1x512x128.size inb).toLoadRect (rfin m c) = kk m (lft^[h] c) := by
  funext j
  have h0 : (j 0).val = 0 := by have := (j 0).isLt; change _ < 1 at this; omega
  have h1 : (j 1).val < 512 := (j 1).isLt
  have h2 : (j 2).val < 128 := (j 2).isLt
  rw [View.readAt_rect]
  show rfin m c ((Rect.unit (s := S9x1024x128) ![h, 0, 0] S1x512x128.size inb).emb j) = _
  have e0 : ((Rect.unit (s := S9x1024x128) ![h, 0, 0] S1x512x128.size inb).emb j 0).val = h := by rw [Rect.emb_apply, h0]; simp
  have e1 : (Rect.unit (s := S9x1024x128) ![h, 0, 0] S1x512x128.size inb).emb j 1 = (⟨(j 1).val, by omega⟩ : Fin 1024) := Fin.ext (by rw [Rect.emb_apply]; simp)
  have e2 : (Rect.unit (s := S9x1024x128) ![h, 0, 0] S1x512x128.size inb).emb j 2 = (⟨(j 2).val, by omega⟩ : Fin 128) := Fin.ext (by rw [Rect.emb_apply]; simp)
  show slotAt m (lft^[((Rect.unit (s := S9x1024x128) ![h, 0, 0] S1x512x128.size inb).emb j 0).val] c) ((Rect.unit (s := S9x1024x128) ![h, 0, 0] S1x512x128.size inb).emb j 1) ((Rect.unit (s := S9x1024x128) ![h, 0, 0] S1x512x128.size inb).emb j 2) = _
  rw [e0, e1, e2]
  unfold slotAt
  rw [dif_pos h1]
  congr 1
  funext a
  apply Fin.ext
  fin_cases a
  · exact h0.symm
  · rfl
  · rfl
theorem read_rv (c : Dev nD) (h : ℕ) (inb : ∀ a, (![h, 512, 0] : Fin 3 → ℕ) a + S1x512x128.size a ≤ S9x1024x128.size a) :
    (rbM).view.readAt (Elt F) (Rect.unit (s := S9x1024x128) ![h, 512, 0] S1x512x128.size inb).toLoadRect (rfin m c) = vv m (lft^[h] c) := by
  funext j
  have h0 : (j 0).val = 0 := by have := (j 0).isLt; change _ < 1 at this; omega
  have h1 : (j 1).val < 512 := (j 1).isLt
  have h2 : (j 2).val < 128 := (j 2).isLt
  rw [View.readAt_rect]
  show rfin m c ((Rect.unit (s := S9x1024x128) ![h, 512, 0] S1x512x128.size inb).emb j) = _
  have e0 : ((Rect.unit (s := S9x1024x128) ![h, 512, 0] S1x512x128.size inb).emb j 0).val = h := by rw [Rect.emb_apply, h0]; simp
  have e1 : (Rect.unit (s := S9x1024x128) ![h, 512, 0] S1x512x128.size inb).emb j 1 = (⟨512 + (j 1).val, by omega⟩ : Fin 1024) := Fin.ext (by rw [Rect.emb_apply]; simp)
  have e2 : (Rect.unit (s := S9x1024x128) ![h, 512, 0] S1x512x128.size inb).emb j 2 = (⟨(j 2).val, by omega⟩ : Fin 128) := Fin.ext (by rw [Rect.emb_apply]; simp)
  show slotAt m (lft^[((Rect.unit (s := S9x1024x128) ![h, 512, 0] S1x512x128.size inb).emb j 0).val] c) ((Rect.unit (s := S9x1024x128) ![h, 512, 0] S1x512x128.size inb).emb j 1) ((Rect.unit (s := S9x1024x128) ![h, 512, 0] S1x512x128.size inb).emb j 2) = _
  rw [e0, e1, e2]
  unfold slotAt
  rw [dif_neg (by show ¬ (512 + (j 1).val) < 512; omega)]
  congr 1
  funext a
  apply Fin.ext
  fin_cases a
  · exact h0.symm
  · show 512 + (j 1).val - 512 = (j 1).val; omega
  · rfl

/-- Such a half lies in the slot. -/
theorem sub_r (h : Fin 9) (o : ℕ) (ho : o + 512 ≤ 1024) (inb : ∀ a, (![h.val, o, 0] : Fin 3 → ℕ) a + S1x512x128.size a ≤ S9x1024x128.size a) :
    (Rect.unit (s := S9x1024x128) ![h.val, o, 0] S1x512x128.size inb).set ⊆ (rSl h).view.set := by
  rw [rSl_set]
  intro i hi
  rw [Rect.mem_set_unit] at hi ⊢
  intro a
  have := hi a
  fin_cases a
  · exact this
  · have t : o ≤ (i 1).val ∧ (i 1).val < o + 512 := this
    show 0 ≤ (i 1).val ∧ (i 1).val < 0 + 1024
    omega
  · exact this

theorem load_rk (c : Dev nD) (h : Fin 9) (ks : List (Fin 9)) {inb : ∀ a, (![h.val, 0, 0] : Fin 3 → ℕ) a + S1x512x128.size a ≤ S9x1024x128.size a}
    {hl : (rbM).view.LoadsAt (Rect.unit (s := S9x1024x128) ![h.val, 0, 0] S1x512x128.size inb).toLoadRect}
    {α : Type} {Q : α → sProp 𝕄} {k : Vec F S1x512x128 .bf16 → Prog (TpuEff nD τ sig (Elt F) Λ₀ .tc) α} :
    keptR m c (h :: ks) ⊢ iprop((keptR m c (h :: ks) -∗ WP c (k (kk m (lft^[h.val] c))) Q)
      -∗ WP c (.op (.load rbM (Rect.unit (s := S9x1024x128) ![h.val, 0, 0] S1x512x128.size inb).toLoadRect hl) k) Q) := by
  unfold keptR rPt
  rw [list_cons]
  iintro ⟨H, Hks⟩ Hk
  iapply (wp_load 𝒱₀ (c : Thread nD τ) none Set.univ (m := rbM) (S := (rSl h).view.set) (f := rfin m c) (by
    show Finset.map _ _ ⊆ _
    rw [show ((rbM).view.emb : _ ↪ _) = Function.Embedding.refl _ from rfl, Finset.map_refl]; exact sub_r h 0 (by omega) inb)) $$ H
  iintro H
  rw [read_rk]
  iapply Hk
  isplitl [H] <;> iassumption
theorem load_rv (c : Dev nD) (h : Fin 9) (ks : List (Fin 9)) {inb : ∀ a, (![h.val, 512, 0] : Fin 3 → ℕ) a + S1x512x128.size a ≤ S9x1024x128.size a}
    {hl : (rbM).view.LoadsAt (Rect.unit (s := S9x1024x128) ![h.val, 512, 0] S1x512x128.size inb).toLoadRect}
    {α : Type} {Q : α → sProp 𝕄} {k : Vec F S1x512x128 .bf16 → Prog (TpuEff nD τ sig (Elt F) Λ₀ .tc) α} :
    keptR m c (h :: ks) ⊢ iprop((keptR m c (h :: ks) -∗ WP c (k (vv m (lft^[h.val] c))) Q)
      -∗ WP c (.op (.load rbM (Rect.unit (s := S9x1024x128) ![h.val, 512, 0] S1x512x128.size inb).toLoadRect hl) k) Q) := by
  unfold keptR rPt
  rw [list_cons]
  iintro ⟨H, Hks⟩ Hk
  iapply (wp_load 𝒱₀ (c : Thread nD τ) none Set.univ (m := rbM) (S := (rSl h).view.set) (f := rfin m c) (by
    show Finset.map _ _ ⊆ _
    rw [show ((rbM).view.emb : _ ↪ _) = Function.Embedding.refl _ from rfl, Finset.map_refl]; exact sub_r h 512 (by omega) inb)) $$ H
  iintro H
  rw [read_rv]
  iapply Hk
  isplitl [H] <;> iassumption

/-- Slot 0 once the device's own keys and values are stored into its halves. -/
theorem fill_r (c : Dev nD) (f : (rbM).view.ty.Contents (Elt F)) (inb₁ : ∀ a, (![0, 0, 0] : Fin 3 → ℕ) a + S1x512x128.size a ≤ S9x1024x128.size a)
    (inb₂ : ∀ a, (![0, 512, 0] : Fin 3 → ℕ) a + S1x512x128.size a ≤ S9x1024x128.size a) :
    ∀ i ∈ (rSl 0).view.set, ((rbM).access (Rect.unit (s := S9x1024x128) ![0, 512, 0] S1x512x128.size inb₂)).write (Elt F)
        (((rbM).access (Rect.unit (s := S9x1024x128) ![0, 0, 0] S1x512x128.size inb₁)).write (Elt F) f (kk m c) Finset.univ) (vv m c) Finset.univ i = rfin m c i := by
  intro i hi
  rw [rSl_set] at hi
  have hi0 : (i 0).val = 0 := by have := (Rect.mem_set_unit.mp hi) 0; have t : 0 ≤ (i 0).val ∧ (i 0).val < 0 + 1 := this; omega
  have h1 : (i 1).val < 1024 := (i 1).isLt
  show _ = slotAt m (lft^[(i 0).val] c) (i 1) (i 2)
  rw [hi0]
  unfold slotAt
  by_cases h : (i 1).val < 512
  · rw [View.write_of_not_mem]
    · have e : i = ((rbM).access (Rect.unit (s := S9x1024x128) ![0, 0, 0] S1x512x128.size inb₁)).emb (ix3 0 ⟨(i 1).val, h⟩ (i 2)) := by
        funext a; apply Fin.ext
        show (i a).val = ((Rect.unit (s := S9x1024x128) ![0, 0, 0] S1x512x128.size inb₁).emb (ix3 0 ⟨(i 1).val, h⟩ (i 2)) a).val
        rw [Rect.emb_apply]
        fin_cases a
        · show (i 0).val = 0 + 1 * 0; omega
        · show (i 1).val = 0 + 1 * (i 1).val; omega
        · show (i 2).val = 0 + 1 * (i 2).val; omega
      have e' := congrArg (((rbM).access (Rect.unit (s := S9x1024x128) ![0, 0, 0] S1x512x128.size inb₁)).write (Elt F) f (kk m c) Finset.univ) e
      rw [View.write_emb_of_mem _ _ (Finset.mem_univ _)] at e'
      rw [e', dif_pos h]; rfl
    · intro hm
      rw [View.setOn_univ, View.set_slice_whole, Rect.mem_set_unit] at hm
      have t : 512 ≤ (i 1).val ∧ (i 1).val < 512 + 512 := hm 1
      omega
  · have e : i = ((rbM).access (Rect.unit (s := S9x1024x128) ![0, 512, 0] S1x512x128.size inb₂)).emb (ix3 0 ⟨(i 1).val - 512, by omega⟩ (i 2)) := by
        funext a; apply Fin.ext
        show (i a).val = ((Rect.unit (s := S9x1024x128) ![0, 512, 0] S1x512x128.size inb₂).emb (ix3 0 ⟨(i 1).val - 512, by omega⟩ (i 2)) a).val
        rw [Rect.emb_apply]
        fin_cases a
        · show (i 0).val = 0 + 1 * 0; omega
        · show (i 1).val = 512 + 1 * ((i 1).val - 512); omega
        · show (i 2).val = 0 + 1 * (i 2).val; omega
    have e' := congrArg (((rbM).access (Rect.unit (s := S9x1024x128) ![0, 512, 0] S1x512x128.size inb₂)).write (Elt F) (((rbM).access (Rect.unit (s := S9x1024x128) ![0, 0, 0] S1x512x128.size inb₁)).write (Elt F) f (kk m c) Finset.univ) (vv m c) Finset.univ) e
    rw [View.write_emb_of_mem _ _ (Finset.mem_univ _)] at e'
    rw [e', dif_neg h]; rfl

/-! ## The ring to the left -/

/-- The contents of slot `h + 1` on the neighbour are those of slot `h` here. -/
theorem land_l (c : Dev nD) (h h' : Fin 8) (hh : h'.val = h.val + 1) (fd : Buf (Elt F) ((lSl h').view.loc (lft c : Thread nD τ))) :
    ∀ i ∈ (lSl h').view.set, (lSl h').view.write (Elt F) fd ((lSl h).view.read (Elt F) (lfin m c)) Finset.univ i = lfin m (lft c) i := by
  intro i hi
  obtain ⟨z, -, rfl⟩ := Finset.mem_map.mp hi
  rw [View.write_emb_of_mem _ _ (Finset.mem_univ z)]
  show lfin m c ((lSl h).view.emb z) = lfin m (lft c) ((lSl h').view.emb z)
  rw [lSl_emb, lSl_emb]
  show slotAt m (rgt^[h.val] c) _ _ = slotAt m (rgt^[h'.val] (lft c)) _ _
  rw [hh, Function.iterate_succ_apply, rgt_lft]

theorem land_l_pts (c : Dev nD) (h h' : Fin 8) (hh : h'.val = h.val + 1) (fd : Buf (Elt F) ((lSl h').view.loc (lft c : Thread nD τ))) :
    ((lSl h').view.loc (lft c : Thread nD τ) ↦[(lSl h').view.set]{fullShare} (lSl h').view.write (Elt F) fd ((lSl h).view.read (Elt F) (lfin m c)) Finset.univ : sProp 𝕄)
      ⊢ iprop(lPt m h' half₁ (lft c) ∗ lPt m h' half₂ (lft c)) :=
  (Entails.of_eq (pointsTo_congr (land_l m c h h' hh fd))).trans halves.1

/-- Lane `x`, from slot `h` to the neighbour's slot `h + 1`. -/
theorem send_l (c n : Dev nD) (x : Fin 17) (h h' : Fin 8) (hn : n = lft c) (hp : peer x c = lft c) (hh : h'.val = h.val + 1)
    (h₁ : srcPay m x c = lPt m h half₁ c) (h₂ : dstAny (F := F) x (lft c) = lAny h' (lft c))
    (h₃ : dstPay m x (lft c) = iprop(lPt m h' half₁ (lft c) ∗ lPt m h' half₂ (lft c))) (hN : (lSl h').view.dmaCredit = amt x)
    {hsc : (lSl h' : Memref sig (Dev.tc n : Thread nD τ).2.kind .vmem S1024x128 .bf16).view.ref.isScScratch = false}
    {hsrc : (lSl h).view.WordExact} {hdst : (lSl h').view.WordExact}
    {hsem : DmaTarget.Typed .vmem (.dma (rN x)) (.remote (Dev.tc n : Thread nD τ) (lSl h') (.dma (sN x)) hsc)}
    {α : Type} {Q : α → sProp 𝕄} {k : PUnit → Prog (TpuEff nD τ sig (Elt F) Λ₀ .tc) α} (l d : List (Fin 17)) :
    iprop(records m K ∗ owesE c (owedL c (x :: l)) ∗ tokS c (x :: l) ∗ dstL c (x :: l) ∗ doneS c d ∗ lPt m h half₁ c)
      ⊢ iprop(((owesE c (owedL c l) ∗ tokS c l ∗ dstL c l ∗ doneS c (x :: d)) -∗ WP c (k ⟨⟩) Q)
          -∗ WP c (.op (.enqueueDma (lSl h) (.remote (Dev.tc n : Thread nD τ) (lSl h') (.dma (sN x)) hsc) (.dma (rN x)) hsrc hdst hsem) k) Q) := by
  rw [← h₁]
  rw [← hp] at hn h₂ h₃
  exact send_step m K c n x hn (src := lSl h) (dst := lSl h') (lfin m c) h₁ h₂
    (fun fd => by rw [h₃]; revert fd; rw [hp]; exact fun fd => land_l_pts m c h h' hh fd) hN l d

/-- The wait for the landing in slot `h`: a half to send on, a half kept. -/
theorem recv_l (c : Dev nD) (x : Fin 17) (h : Fin 8) (h₃ : dstPay m x c = iprop(lPt m h half₁ c ∗ lPt m h half₂ c))
    {s s' : Shape} {e e' : EltTy} {src : Memref sig .tc .vmem s e} {dst : Memref sig .tc .vmem s' e'}
    {hsrc : src.view.WordExact} {hdst : dst.view.WordExact}
    {α : Type} {Q : α → sProp 𝕄} {k : PUnit → Prog (TpuEff nD τ sig (Elt F) Λ₀ .tc) α}
    (hN : dst.view.dmaCredit = amt x) (l r d : List (Fin 17)) (ks : List (Fin 8)) (hl : ∀ y ∈ l, lvl x < lvl y) :
    iprop(records m K ∗ levAts L lv ∗ owesE c (owedL c l) ∗ todoR c (x :: r) ∗ doneR c d ∗ keptL m c ks)
      ⊢ iprop(((owesE c (owedL c l) ∗ todoR c r ∗ doneR c (x :: d) ∗ lPt m h half₁ c ∗ keptL m c (h :: ks)) -∗ WP c (k ⟨⟩) Q)
          -∗ WP c (.op (.waitDma2 (rN x) src dst hsrc hdst) k) Q) := by
  iintro ⟨HR, Hlev, HO, Ht, Hd, Hks⟩ Hk
  iapply (recv_step m K c x hN l r d hl) $$ [HR Hlev HO Ht Hd]
  · isplitl [HR]; · iexact HR
    isplitl [Hlev]; · iexact Hlev
    isplitl [HO]; · iexact HO
    isplitl [Ht] <;> iassumption
  iintro ⟨HO, Ht, Hd, Hp⟩
  ihave Hp := (Entails.of_eq h₃) $$ Hp
  icases Hp with ⟨H₁, H₂⟩
  iapply Hk
  isplitl [HO]; · iexact HO
  isplitl [Ht]; · iexact Ht
  isplitl [Hd]; · iexact Hd
  isplitl [H₁]; · iexact H₁
  unfold keptL
  rw [list_cons]
  isplitl [H₂] <;> iassumption

/-- What a load of the upper half of slot `h` reads, and one of the lower half. -/
theorem read_lk (c : Dev nD) (h : ℕ) (inb : ∀ a, (![h, 0, 0] : Fin 3 → ℕ) a + S1x512x128.size a ≤ S8x1024x128.size a) :
    (lbM).view.readAt (Elt F) (Rect.unit (s := S8x1024x128) ![h, 0, 0] S1x512x128.size inb).toLoadRect (lfin m c) = kk m (rgt^[h] c) := by
  funext j
  have h0 : (j 0).val = 0 := by have := (j 0).isLt; change _ < 1 at this; omega
  have h1 : (j 1).val < 512 := (j 1).isLt
  have h2 : (j 2).val < 128 := (j 2).isLt
  rw [View.readAt_rect]
  show lfin m c ((Rect.unit (s := S8x1024x128) ![h, 0, 0] S1x512x128.size inb).emb j) = _
  have e0 : ((Rect.unit (s := S8x1024x128) ![h, 0, 0] S1x512x128.size inb).emb j 0).val = h := by rw [Rect.emb_apply, h0]; simp
  have e1 : (Rect.unit (s := S8x1024x128) ![h, 0, 0] S1x512x128.size inb).emb j 1 = (⟨(j 1).val, by omega⟩ : Fin 1024) := Fin.ext (by rw [Rect.emb_apply]; simp)
  have e2 : (Rect.unit (s := S8x1024x128) ![h, 0, 0] S1x512x128.size inb).emb j 2 = (⟨(j 2).val, by omega⟩ : Fin 128) := Fin.ext (by rw [Rect.emb_apply]; simp)
  show slotAt m (rgt^[((Rect.unit (s := S8x1024x128) ![h, 0, 0] S1x512x128.size inb).emb j 0).val] c) ((Rect.unit (s := S8x1024x128) ![h, 0, 0] S1x512x128.size inb).emb j 1) ((Rect.unit (s := S8x1024x128) ![h, 0, 0] S1x512x128.size inb).emb j 2) = _
  rw [e0, e1, e2]
  unfold slotAt
  rw [dif_pos h1]
  congr 1
  funext a
  apply Fin.ext
  fin_cases a
  · exact h0.symm
  · rfl
  · rfl
theorem read_lv (c : Dev nD) (h : ℕ) (inb : ∀ a, (![h, 512, 0] : Fin 3 → ℕ) a + S1x512x128.size a ≤ S8x1024x128.size a) :
    (lbM).view.readAt (Elt F) (Rect.unit (s := S8x1024x128) ![h, 512, 0] S1x512x128.size inb).toLoadRect (lfin m c) = vv m (rgt^[h] c) := by
  funext j
  have h0 : (j 0).val = 0 := by have := (j 0).isLt; change _ < 1 at this; omega
  have h1 : (j 1).val < 512 := (j 1).isLt
  have h2 : (j 2).val < 128 := (j 2).isLt
  rw [View.readAt_rect]
  show lfin m c ((Rect.unit (s := S8x1024x128) ![h, 512, 0] S1x512x128.size inb).emb j) = _
  have e0 : ((Rect.unit (s := S8x1024x128) ![h, 512, 0] S1x512x128.size inb).emb j 0).val = h := by rw [Rect.emb_apply, h0]; simp
  have e1 : (Rect.unit (s := S8x1024x128) ![h, 512, 0] S1x512x128.size inb).emb j 1 = (⟨512 + (j 1).val, by omega⟩ : Fin 1024) := Fin.ext (by rw [Rect.emb_apply]; simp)
  have e2 : (Rect.unit (s := S8x1024x128) ![h, 512, 0] S1x512x128.size inb).emb j 2 = (⟨(j 2).val, by omega⟩ : Fin 128) := Fin.ext (by rw [Rect.emb_apply]; simp)
  show slotAt m (rgt^[((Rect.unit (s := S8x1024x128) ![h, 512, 0] S1x512x128.size inb).emb j 0).val] c) ((Rect.unit (s := S8x1024x128) ![h, 512, 0] S1x512x128.size inb).emb j 1) ((Rect.unit (s := S8x1024x128) ![h, 512, 0] S1x512x128.size inb).emb j 2) = _
  rw [e0, e1, e2]
  unfold slotAt
  rw [dif_neg (by show ¬ (512 + (j 1).val) < 512; omega)]
  congr 1
  funext a
  apply Fin.ext
  fin_cases a
  · exact h0.symm
  · show 512 + (j 1).val - 512 = (j 1).val; omega
  · rfl

/-- Such a half lies in the slot. -/
theorem sub_l (h : Fin 8) (o : ℕ) (ho : o + 512 ≤ 1024) (inb : ∀ a, (![h.val, o, 0] : Fin 3 → ℕ) a + S1x512x128.size a ≤ S8x1024x128.size a) :
    (Rect.unit (s := S8x1024x128) ![h.val, o, 0] S1x512x128.size inb).set ⊆ (lSl h).view.set := by
  rw [lSl_set]
  intro i hi
  rw [Rect.mem_set_unit] at hi ⊢
  intro a
  have := hi a
  fin_cases a
  · exact this
  · have t : o ≤ (i 1).val ∧ (i 1).val < o + 512 := this
    show 0 ≤ (i 1).val ∧ (i 1).val < 0 + 1024
    omega
  · exact this

theorem load_lk (c : Dev nD) (h : Fin 8) (ks : List (Fin 8)) {inb : ∀ a, (![h.val, 0, 0] : Fin 3 → ℕ) a + S1x512x128.size a ≤ S8x1024x128.size a}
    {hl : (lbM).view.LoadsAt (Rect.unit (s := S8x1024x128) ![h.val, 0, 0] S1x512x128.size inb).toLoadRect}
    {α : Type} {Q : α → sProp 𝕄} {k : Vec F S1x512x128 .bf16 → Prog (TpuEff nD τ sig (Elt F) Λ₀ .tc) α} :
    keptL m c (h :: ks) ⊢ iprop((keptL m c (h :: ks) -∗ WP c (k (kk m (rgt^[h.val] c))) Q)
      -∗ WP c (.op (.load lbM (Rect.unit (s := S8x1024x128) ![h.val, 0, 0] S1x512x128.size inb).toLoadRect hl) k) Q) := by
  unfold keptL lPt
  rw [list_cons]
  iintro ⟨H, Hks⟩ Hk
  iapply (wp_load 𝒱₀ (c : Thread nD τ) none Set.univ (m := lbM) (S := (lSl h).view.set) (f := lfin m c) (by
    show Finset.map _ _ ⊆ _
    rw [show ((lbM).view.emb : _ ↪ _) = Function.Embedding.refl _ from rfl, Finset.map_refl]; exact sub_l h 0 (by omega) inb)) $$ H
  iintro H
  rw [read_lk]
  iapply Hk
  isplitl [H] <;> iassumption
theorem load_lv (c : Dev nD) (h : Fin 8) (ks : List (Fin 8)) {inb : ∀ a, (![h.val, 512, 0] : Fin 3 → ℕ) a + S1x512x128.size a ≤ S8x1024x128.size a}
    {hl : (lbM).view.LoadsAt (Rect.unit (s := S8x1024x128) ![h.val, 512, 0] S1x512x128.size inb).toLoadRect}
    {α : Type} {Q : α → sProp 𝕄} {k : Vec F S1x512x128 .bf16 → Prog (TpuEff nD τ sig (Elt F) Λ₀ .tc) α} :
    keptL m c (h :: ks) ⊢ iprop((keptL m c (h :: ks) -∗ WP c (k (vv m (rgt^[h.val] c))) Q)
      -∗ WP c (.op (.load lbM (Rect.unit (s := S8x1024x128) ![h.val, 512, 0] S1x512x128.size inb).toLoadRect hl) k) Q) := by
  unfold keptL lPt
  rw [list_cons]
  iintro ⟨H, Hks⟩ Hk
  iapply (wp_load 𝒱₀ (c : Thread nD τ) none Set.univ (m := lbM) (S := (lSl h).view.set) (f := lfin m c) (by
    show Finset.map _ _ ⊆ _
    rw [show ((lbM).view.emb : _ ↪ _) = Function.Embedding.refl _ from rfl, Finset.map_refl]; exact sub_l h 512 (by omega) inb)) $$ H
  iintro H
  rw [read_lv]
  iapply Hk
  isplitl [H] <;> iassumption

/-- Slot 0 once the device's own keys and values are stored into its halves. -/
theorem fill_l (c : Dev nD) (f : (lbM).view.ty.Contents (Elt F)) (inb₁ : ∀ a, (![0, 0, 0] : Fin 3 → ℕ) a + S1x512x128.size a ≤ S8x1024x128.size a)
    (inb₂ : ∀ a, (![0, 512, 0] : Fin 3 → ℕ) a + S1x512x128.size a ≤ S8x1024x128.size a) :
    ∀ i ∈ (lSl 0).view.set, ((lbM).access (Rect.unit (s := S8x1024x128) ![0, 512, 0] S1x512x128.size inb₂)).write (Elt F)
        (((lbM).access (Rect.unit (s := S8x1024x128) ![0, 0, 0] S1x512x128.size inb₁)).write (Elt F) f (kk m c) Finset.univ) (vv m c) Finset.univ i = lfin m c i := by
  intro i hi
  rw [lSl_set] at hi
  have hi0 : (i 0).val = 0 := by have := (Rect.mem_set_unit.mp hi) 0; have t : 0 ≤ (i 0).val ∧ (i 0).val < 0 + 1 := this; omega
  have h1 : (i 1).val < 1024 := (i 1).isLt
  show _ = slotAt m (rgt^[(i 0).val] c) (i 1) (i 2)
  rw [hi0]
  unfold slotAt
  by_cases h : (i 1).val < 512
  · rw [View.write_of_not_mem]
    · have e : i = ((lbM).access (Rect.unit (s := S8x1024x128) ![0, 0, 0] S1x512x128.size inb₁)).emb (ix3 0 ⟨(i 1).val, h⟩ (i 2)) := by
        funext a; apply Fin.ext
        show (i a).val = ((Rect.unit (s := S8x1024x128) ![0, 0, 0] S1x512x128.size inb₁).emb (ix3 0 ⟨(i 1).val, h⟩ (i 2)) a).val
        rw [Rect.emb_apply]
        fin_cases a
        · show (i 0).val = 0 + 1 * 0; omega
        · show (i 1).val = 0 + 1 * (i 1).val; omega
        · show (i 2).val = 0 + 1 * (i 2).val; omega
      have e' := congrArg (((lbM).access (Rect.unit (s := S8x1024x128) ![0, 0, 0] S1x512x128.size inb₁)).write (Elt F) f (kk m c) Finset.univ) e
      rw [View.write_emb_of_mem _ _ (Finset.mem_univ _)] at e'
      rw [e', dif_pos h]; rfl
    · intro hm
      rw [View.setOn_univ, View.set_slice_whole, Rect.mem_set_unit] at hm
      have t : 512 ≤ (i 1).val ∧ (i 1).val < 512 + 512 := hm 1
      omega
  · have e : i = ((lbM).access (Rect.unit (s := S8x1024x128) ![0, 512, 0] S1x512x128.size inb₂)).emb (ix3 0 ⟨(i 1).val - 512, by omega⟩ (i 2)) := by
        funext a; apply Fin.ext
        show (i a).val = ((Rect.unit (s := S8x1024x128) ![0, 512, 0] S1x512x128.size inb₂).emb (ix3 0 ⟨(i 1).val - 512, by omega⟩ (i 2)) a).val
        rw [Rect.emb_apply]
        fin_cases a
        · show (i 0).val = 0 + 1 * 0; omega
        · show (i 1).val = 512 + 1 * ((i 1).val - 512); omega
        · show (i 2).val = 0 + 1 * (i 2).val; omega
    have e' := congrArg (((lbM).access (Rect.unit (s := S8x1024x128) ![0, 512, 0] S1x512x128.size inb₂)).write (Elt F) (((lbM).access (Rect.unit (s := S8x1024x128) ![0, 0, 0] S1x512x128.size inb₁)).write (Elt F) f (kk m c) Finset.univ) (vv m c) Finset.univ) e
    rw [View.write_emb_of_mem _ _ (Finset.mem_univ _)] at e'
    rw [e', dif_neg h]; rfl

end Cert.RunIdeal
-- ==== Proof.Ideal.Ends.lean ====
/-
The remaining steps of the kernel: the exchange of queries and of partial sums, the barrier, and how the
device's buffers are opened into slots at the start and closed at the end.
-/
module

public import proofs.«01_k».proof.Proof.Ideal.Moves

@[expose] public section

noncomputable section

namespace Cert.RunIdeal

open Cert.KernelIdeal Cert.KernelIdeal.Gen

open Idealize.ShloMosaic
open Idealize.ShloMosaic.TcCoe
open Idealize.ShloMosaic.ValueIdx (ix3 eq_ix3)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ)
variable (K : Dev nD × CI → ℕ)

/-! ## The exchange with the partner -/

/-- Lane 15: the scaled queries to the partner. -/
theorem send_q (c n : Dev nD) (hn : n = far c)
    {hsc : (qoM : Memref sig (Dev.tc n : Thread nD τ).2.kind .vmem S512x128 .bf16).view.ref.isScScratch = false}
    {hsrc : qmM.view.WordExact} {hdst : qoM.view.WordExact}
    {hsem : DmaTarget.Typed .vmem (.dma (rN 15)) (.remote (Dev.tc n : Thread nD τ) qoM (.dma (sN 15)) hsc)}
    {α : Type} {Q : α → sProp 𝕄} {k : PUnit → Prog (TpuEff nD τ sig (Elt F) Λ₀ .tc) α} (l d : List (Fin 17)) :
    iprop(records m K ∗ owesE c (owedL c (15 :: l)) ∗ tokS c (15 :: l) ∗ dstL c (15 :: l) ∗ doneS c d ∗ qmPt m half₁ c)
      ⊢ iprop(((owesE c (owedL c l) ∗ tokS c l ∗ dstL c l ∗ doneS c (15 :: d)) -∗ WP c (k ⟨⟩) Q)
          -∗ WP c (.op (.enqueueDma qmM (.remote (Dev.tc n : Thread nD τ) qoM (.dma (sN 15)) hsc) (.dma (rN 15)) hsrc hdst hsem) k) Q) := by
  exact send_step m K c n 15 hn (src := qmM) (dst := qoM) (qsc m c)
    (by show (qmM.view.loc (c : Thread nD τ) ↦{half₁} qsc m c : sProp 𝕄) = _; rw [View.set_whole])
    (by show (iprop(∃ f : Buf (Elt F) (qoM.view.loc (far c : Thread nD τ)), (qoM.view.loc (far c : Thread nD τ)) ↦{fullShare} f) : sProp 𝕄) = _; rw [View.set_whole]; rfl)
    (fun fd => by
      show _ ⊢ (qoM.view.loc (far c : Thread nD τ) ↦{fullShare} qsc m (far (far c)) : sProp 𝕄)
      rw [View.set_whole, far_far, View.write_whole_univ, View.read_whole]; exact BI.Entails.refl _) rfl l d

/-- Lane 16: the partial sums of the partner's rows to the partner. -/
theorem send_c (c n : Dev nD) (hn : n = far c)
    {hsc : (raM : Memref sig (Dev.tc n : Thread nD τ).2.kind .vmem S512x256 .bf16).view.ref.isScScratch = false}
    {hsrc : saM.view.WordExact} {hdst : raM.view.WordExact}
    {hsem : DmaTarget.Typed .vmem (.dma (rN 16)) (.remote (Dev.tc n : Thread nD τ) raM (.dma (sN 16)) hsc)}
    {α : Type} {Q : α → sProp 𝕄} {k : PUnit → Prog (TpuEff nD τ sig (Elt F) Λ₀ .tc) α} (l d : List (Fin 17)) :
    iprop(records m K ∗ owesE c (owedL c (16 :: l)) ∗ tokS c (16 :: l) ∗ dstL c (16 :: l) ∗ doneS c d ∗ saPt m half₁ c)
      ⊢ iprop(((owesE c (owedL c l) ∗ tokS c l ∗ dstL c l ∗ doneS c (16 :: d)) -∗ WP c (k ⟨⟩) Q)
          -∗ WP c (.op (.enqueueDma saM (.remote (Dev.tc n : Thread nD τ) raM (.dma (sN 16)) hsc) (.dma (rN 16)) hsrc hdst hsem) k) Q) := by
  exact send_step m K c n 16 hn (src := saM) (dst := raM) (part m c)
    (by show (saM.view.loc (c : Thread nD τ) ↦{half₁} part m c : sProp 𝕄) = _; rw [View.set_whole])
    (by show (iprop(∃ f : Buf (Elt F) (raM.view.loc (far c : Thread nD τ)), (raM.view.loc (far c : Thread nD τ)) ↦{fullShare} f) : sProp 𝕄) = _; rw [View.set_whole]; rfl)
    (fun fd => by
      show _ ⊢ (raM.view.loc (far c : Thread nD τ) ↦{fullShare} part m (far (far c)) : sProp 𝕄)
      rw [View.set_whole, far_far, View.write_whole_univ, View.read_whole]; exact BI.Entails.refl _) rfl l d

/-! ## The barrier -/

/-- The places lanes of a list land in on device `c`. -/
def ownAny (c : Dev nD) (l : List (Fin 17)) : sProp 𝕄 := bigSepL l fun x => dstAny (F := F) x c

theorem bigSepL_eq {α : Type} (l : List α) (Φ Ψ : α → sProp 𝕄) (h : ∀ x ∈ l, Φ x = Ψ x) : bigSepL l Φ = bigSepL l Ψ := by
  induction l with
  | nil => rfl
  | cons x l ih => rw [list_cons, list_cons, h x List.mem_cons_self, ih fun y hy => h y (List.mem_cons_of_mem _ hy)]

/-- A unit to device `t`'s barrier cell, with the places its lanes land in here. -/
theorem sig_step (c t n : Dev nD) (d : Fin 3) (hn : n = t) (hp : ∀ x ∈ lanes d, peer x t = c) (O : CellTallies nD τ sig Unit) {k' : ℕ} (hk : 1 = k')
    {α : Type} {Q : α → sProp 𝕄} {k : PUnit → Prog (TpuEff nD τ sig (Elt F) Λ₀ .tc) α} :
    iprop(records m K ∗ owesE c (O + tallyAt (barCell t) () 1) ∗ dutyTok ER (barCell t) 0 d ∗ ownAny c (lanes d))
      ⊢ iprop((owesE c O -∗ WP c (k ⟨⟩) Q) -∗ WP c (.op (.semSignal (n, Proc.tc) barS k') k) Q) := by
  subst hn
  subst hk
  unfold owesE
  iintro ⟨#HR, ⟨%W, HO⟩, Ht, Hown⟩ Hk
  iapply (Rounds.wp_signal 𝒱₀ ER (Rd m) (c : Thread nD τ) none (dst := (n : Thread nD τ)) (κ := K (n, none))
      (d := d) (r := 0) (by rw [duties_bar]; exact Finset.mem_univ _) (amount_bar m n d) () O rfl) $$ [HO Ht Hown]
  · isplitr; · iapply (inv_at m K (n, none)); iexact HR
    isplitl [HO]; · iexact HO
    isplitl [Ht]; · iexact Ht
    isplitl [Hown]
    · rw [payload_bar]; unfold barPay ownAny
      rw [bigSepL_eq (lanes d) (fun x => dstAny (F := F) x (peer x n)) (fun x => dstAny (F := F) x c) (fun x hx => by rw [hp x hx])]
      iexact Hown
    iapply (reached_at m K (n, none)); iexact HR
  iintro HO
  iapply Hk
  iexists W; iexact HO

/-- The wait for all three neighbours: every place this device's lanes land in, and the cell closed. -/
theorem bar_step (c : Dev nD) {k' : ℕ} (hk : 3 = k')
    {α : Type} {Q : α → sProp 𝕄} {k : PUnit → Prog (TpuEff nD τ sig (Elt F) Λ₀ .tc) α} :
    iprop(records m K ∗ levAts L lv ∗ owesE c (owedL c order) ∗ cred (tallyAt (barCell c) () 3) ∗ atPos ER (barCell c) 0 ∅ 0)
      ⊢ iprop(((owesE c (owedL c order) ∗ dstL c order ∗ semVal (barCell c) 0) -∗ WP c (k ⟨⟩) Q) -∗ WP c (.op (.semWait barS k') k) Q) := by
  subst hk
  unfold owesE
  iintro ⟨#HR, #Hlev, ⟨%W, HO⟩, Hc, Hat⟩ Hk
  iapply (Rounds.wp_wait_rest_token 𝒱₀ ER (Rd m) (c : Thread nD τ) none (κ := K (c, none)) (sm := .reg barS) (k' := 3)
      (wpE_semWait_eq 𝒱₀ (c : Thread nD τ) none Set.univ) (Set.mem_univ _) () (O := owedL c order) (W := W) (R := 0) (m := 0) (T := ∅)
      (by rw [Nat.zero_add]; exact (expect_bar m c).symm)) $$ [Hc HO Hat]
  · isplitr; · iapply (inv_at m K (c, none)); iexact HR
    isplitl [Hc]; · iexact Hc
    isplitl [HO]; · iexact HO
    isplitr; · iapply (mayWait_lanes c (.reg barS) order (fun y _ => lvl_pos y)); iexact Hlev
    iexact Hat
  iintro ⟨HO, Hat, -, Hpay⟩
  ihave Hp := (Entails.of_eq (rest_bar m c)) $$ Hpay
  imod (Rounds.cell_close ER (Rd m) (Set.mem_univ (K (c, none))) (fun h => h) (R := 0 + 1) (duties_later m (barCell c))) $$ [Hat] with Hz
  · isplitr; · iapply (inv_at m K (c, none)); iexact HR
    iexact Hat
  iapply Hk
  isplitl [HO]; · iexists _; iexact HO
  isplitl [Hp]
  · unfold dstL barPay
    rw [TalkSites.bigSepL_perm (l := order) (l' := lanes 0 ++ (lanes 1 ++ lanes 2)) (by decide) (by decide), bigSepL_append, bigSepL_append]
    iexact Hp
  iexact Hz

/-! ## Opening the buffers -/

theorem list_mono {α : Type} (l : List α) (Φ Ψ : α → sProp 𝕄) (h : ∀ x, Φ x ⊢ Ψ x) : bigSepL l Φ ⊢ bigSepL l Ψ := by
  induction l with
  | nil => exact BI.Entails.refl _
  | cons x l ih => rw [list_cons, list_cons]; exact BI.sep_mono (h x) ih
theorem list_sep {α : Type} (l : List α) (Φ Ψ : α → sProp 𝕄) : bigSepL l (fun x => iprop(Φ x ∗ Ψ x)) ⊢ iprop(bigSepL l Φ ∗ bigSepL l Ψ) := by
  induction l with
  | nil => iintro -; isplitl [] <;> iapply (show (iprop(emp) : sProp 𝕄) ⊢ bigSepL [] _ from BI.Entails.refl _) <;> iempintro
  | cons x l ih =>
    rw [list_cons, list_cons, list_cons]
    iintro ⟨⟨H₁, H₂⟩, H⟩
    ihave H := ih $$ H
    icases H with ⟨H₃, H₄⟩
    isplitl [H₁ H₃]
    · isplitl [H₁] <;> iassumption
    isplitl [H₂] <;> iassumption

theorem rDisj (b b' : Fin 9) (h : b ≠ b') : Disjoint (rSl b).view.set (rSl b').view.set := by
  rw [rSl_set, rSl_set]
  exact Ring.lead_disjoint (s := S9x1024x128) (a₀ := 0) 1 (fun b : Fin 9 => (![b.val, 0, 0] : Fin 3 → ℕ)) S1x1024x128.size rIn (fun b => (Nat.one_mul _).symm) rfl b b' h
theorem rCov (c : Dev nD) : Finset.biUnion (β := Idx (rbM.view.loc (c : Thread nD τ))) Finset.univ (fun b : Fin 9 => (rSl b).view.set) = Finset.univ := by
  refine (Finset.biUnion_congr rfl fun b _ => rSl_set b).trans ?_
  exact Ring.lead_cover (s := S9x1024x128) (a₀ := 0) 1 (fun b : Fin 9 => (![b.val, 0, 0] : Fin 3 → ℕ)) S1x1024x128.size rIn (fun b => (Nat.one_mul _).symm)
    (fun b a ha => by fin_cases a <;> first | exact absurd rfl ha | rfl) rfl (fun a ha => by fin_cases a <;> first | exact absurd rfl ha | rfl) rfl

/-- The whole right-going buffer, slot by slot. -/
theorem open_r (c : Dev nD) : (iprop(∃ f : Buf (Elt F) (rbM.view.loc (c : Thread nD τ)), (rbM.view.loc (c : Thread nD τ)) ↦{fullShare} f) : sProp 𝕄)
    ⊢ iprop(rAny (F := F) 0 c ∗ ownAny (F := F) c (lanes 0)) := by
  iintro ⟨%f, H⟩
  ihave H := (Entails.of_eq (Ring.pointsTo_blocks (fun b : Fin 9 => (rSl b).view.set) rDisj (rCov c) f)) $$ H
  ihave H := (Entails.of_eq (bigSep_univ_eq_bigSepL ([0, 1, 2, 3, 4, 5, 6, 7, 8] : List (Fin 9)) (by decide) (by decide) _)) $$ H
  ihave H := (list_mono [0, 1, 2, 3, 4, 5, 6, 7, 8] _ (fun h => rAny (F := F) h c) (fun h => (by unfold rAny; iintro H; iexists f; iexact H))) $$ H
  iapply (show bigSepL [0, 1, 2, 3, 4, 5, 6, 7, 8] (fun h => rAny (F := F) h c) ⊢ iprop(rAny (F := F) 0 c ∗ ownAny (F := F) c (lanes 0)) from by
    rw [list_cons]; exact BI.Entails.refl _)
  iexact H

/-- All its slots. -/
def rAll : List (Fin 9) := [8, 7, 6, 5, 4, 3, 2, 1, 0]
theorem rAll_nodup : rAll.Nodup := by decide
theorem rAll_univ : (Finset.univ : Finset (Fin 9)) = rAll.toFinset := by decide

/-- All slots of it at one share are the buffer at that share. -/
theorem whole_r (c : Dev nD) (q : PosShare TreeShare) :
    bigSepL rAll (fun h => rPt m h q c) = ((rbM.view.loc (c : Thread nD τ)) ↦{q} rfin m c : sProp 𝕄) := by
  rw [← bigSep_univ_eq_bigSepL rAll rAll_univ rAll_nodup]
  unfold rPt
  exact (Ring.pointsTo_blocks (ℓ := rbM.view.loc (c : Thread nD τ)) (fun b : Fin 9 => (rSl b).view.set) rDisj (rCov c) (rfin m c)).symm

theorem lDisj (b b' : Fin 8) (h : b ≠ b') : Disjoint (lSl b).view.set (lSl b').view.set := by
  rw [lSl_set, lSl_set]
  exact Ring.lead_disjoint (s := S8x1024x128) (a₀ := 0) 1 (fun b : Fin 8 => (![b.val, 0, 0] : Fin 3 → ℕ)) S1x1024x128.size lIn (fun b => (Nat.one_mul _).symm) rfl b b' h
theorem lCov (c : Dev nD) : Finset.biUnion (β := Idx (lbM.view.loc (c : Thread nD τ))) Finset.univ (fun b : Fin 8 => (lSl b).view.set) = Finset.univ := by
  refine (Finset.biUnion_congr rfl fun b _ => lSl_set b).trans ?_
  exact Ring.lead_cover (s := S8x1024x128) (a₀ := 0) 1 (fun b : Fin 8 => (![b.val, 0, 0] : Fin 3 → ℕ)) S1x1024x128.size lIn (fun b => (Nat.one_mul _).symm)
    (fun b a ha => by fin_cases a <;> first | exact absurd rfl ha | rfl) rfl (fun a ha => by fin_cases a <;> first | exact absurd rfl ha | rfl) rfl

/-- The whole left-going buffer, slot by slot. -/
theorem open_l (c : Dev nD) : (iprop(∃ f : Buf (Elt F) (lbM.view.loc (c : Thread nD τ)), (lbM.view.loc (c : Thread nD τ)) ↦{fullShare} f) : sProp 𝕄)
    ⊢ iprop(lAny (F := F) 0 c ∗ ownAny (F := F) c (lanes 1)) := by
  iintro ⟨%f, H⟩
  ihave H := (Entails.of_eq (Ring.pointsTo_blocks (fun b : Fin 8 => (lSl b).view.set) lDisj (lCov c) f)) $$ H
  ihave H := (Entails.of_eq (bigSep_univ_eq_bigSepL ([0, 1, 2, 3, 4, 5, 6, 7] : List (Fin 8)) (by decide) (by decide) _)) $$ H
  ihave H := (list_mono [0, 1, 2, 3, 4, 5, 6, 7] _ (fun h => lAny (F := F) h c) (fun h => (by unfold lAny; iintro H; iexists f; iexact H))) $$ H
  iapply (show bigSepL [0, 1, 2, 3, 4, 5, 6, 7] (fun h => lAny (F := F) h c) ⊢ iprop(lAny (F := F) 0 c ∗ ownAny (F := F) c (lanes 1)) from by
    rw [list_cons]; exact BI.Entails.refl _)
  iexact H

/-- All its slots. -/
def lAll : List (Fin 8) := [7, 6, 5, 4, 3, 2, 1, 0]
theorem lAll_nodup : lAll.Nodup := by decide
theorem lAll_univ : (Finset.univ : Finset (Fin 8)) = lAll.toFinset := by decide

/-- All slots of it at one share are the buffer at that share. -/
theorem whole_l (c : Dev nD) (q : PosShare TreeShare) :
    bigSepL lAll (fun h => lPt m h q c) = ((lbM.view.loc (c : Thread nD τ)) ↦{q} lfin m c : sProp 𝕄) := by
  rw [← bigSep_univ_eq_bigSepL lAll lAll_univ lAll_nodup]
  unfold lPt
  exact (Ring.pointsTo_blocks (ℓ := lbM.view.loc (c : Thread nD τ)) (fun b : Fin 8 => (lSl b).view.set) lDisj (lCov c) (lfin m c)).symm

/-! ## Closing them -/

/-- The order in which departures are waited for, latest first. -/
abbrev wOrd : List (Fin 17) := [14, 13, 12, 11, 10, 9, 8, 7, 6, 5, 4, 3, 2, 1, 0, 16, 15]

/-- All halves together again. -/
theorem close_all (c : Dev nD) :
    iprop(doneF m c wOrd ∗ rPt m 8 half₁ c ∗ lPt m 7 half₁ c ∗ keptR m c rAll ∗ keptL m c lAll
        ∗ qmPt m half₂ c ∗ saPt m half₂ c)
      ⊢ iprop((bigSepL wOrd fun x => (semVal (sCell x c) 0 : sProp 𝕄))
        ∗ ((rbM.view.loc (c : Thread nD τ)) ↦{fullShare} rfin m c) ∗ ((lbM.view.loc (c : Thread nD τ)) ↦{fullShare} lfin m c)
        ∗ qmPt m fullShare c ∗ saPt m fullShare c) := by
  unfold doneF
  iintro ⟨H, Hr, Hl, Hkr, Hkl, Hq, Hs⟩
  ihave H := (list_sep wOrd (fun x => (semVal (sCell x c) 0 : sProp 𝕄)) (fun x => srcPay m x c)) $$ H
  icases H with ⟨Hv, H⟩
  isplitl [Hv]; · iexact Hv
  ihave H := (show bigSepL wOrd (fun x => srcPay m x c) ⊢ iprop(bigSepL [14, 13, 12, 11, 10, 9, 8] (fun x => srcPay m x c) ∗ bigSepL [7, 6, 5, 4, 3, 2, 1, 0, 16, 15] (fun x => srcPay m x c))
    from Entails.of_eq (bigSepL_append [14, 13, 12, 11, 10, 9, 8] [7, 6, 5, 4, 3, 2, 1, 0, 16, 15] (fun x => srcPay m x c))) $$ H
  icases H with ⟨H₁, H⟩
  ihave H := (show bigSepL [7, 6, 5, 4, 3, 2, 1, 0, 16, 15] (fun x => srcPay m x c) ⊢ iprop(bigSepL [7, 6, 5, 4, 3, 2, 1, 0] (fun x => srcPay m x c) ∗ bigSepL [16, 15] (fun x => srcPay m x c))
    from Entails.of_eq (bigSepL_append [7, 6, 5, 4, 3, 2, 1, 0] [16, 15] (fun x => srcPay m x c))) $$ H
  icases H with ⟨H₂, H⟩
  ihave H := (show bigSepL [16, 15] (fun x => srcPay m x c) ⊢ iprop(saPt m half₁ c ∗ qmPt m half₁ c) from by
    rw [list_cons, list_cons]; iintro ⟨Ha, Hb, -⟩; isplitl [Ha]
    · iapply (show srcPay m 16 c ⊢ saPt m half₁ c from BI.Entails.refl _); iexact Ha
    · iapply (show srcPay m 15 c ⊢ qmPt m half₁ c from BI.Entails.refl _); iexact Hb) $$ H
  icases H with ⟨Hs₁, Hq₁⟩
  ihave H₁ := (show iprop(lPt m 7 half₁ c ∗ bigSepL [14, 13, 12, 11, 10, 9, 8] (fun x => srcPay m x c)) ⊢ bigSepL lAll (fun h => lPt m h half₁ c) from by
    unfold lAll; rw [list_cons (7 : Fin 8)]; exact BI.Entails.refl _) $$ [Hl H₁]
  · isplitl [Hl] <;> iassumption
  ihave H₂ := (show iprop(rPt m 8 half₁ c ∗ bigSepL [7, 6, 5, 4, 3, 2, 1, 0] (fun x => srcPay m x c)) ⊢ bigSepL rAll (fun h => rPt m h half₁ c) from by
    unfold rAll; rw [list_cons (8 : Fin 9)]; exact BI.Entails.refl _) $$ [Hr H₂]
  · isplitl [Hr] <;> iassumption
  ihave H₁ := (Entails.of_eq (whole_l m c half₁)) $$ H₁
  ihave H₂ := (Entails.of_eq (whole_r m c half₁)) $$ H₂
  unfold keptR keptL
  ihave Hkl := (Entails.of_eq (whole_l m c half₂)) $$ Hkl
  ihave Hkr := (Entails.of_eq (whole_r m c half₂)) $$ Hkr
  isplitl [H₂ Hkr]
  · iapply halves.2; isplitl [H₂] <;> iassumption
  isplitl [H₁ Hkl]
  · iapply halves.2; isplitl [H₁] <;> iassumption
  unfold qmPt saPt
  isplitl [Hq₁ Hq]
  · iapply halves.2; isplitl [Hq₁] <;> iassumption
  iapply halves.2; isplitl [Hs₁] <;> iassumption

end Cert.RunIdeal
-- ==== Proof.Ideal.Run.lean ====
/-
One device's run: what it holds between two steps, and each step from that state to the next.
-/
module

public import proofs.«01_k».proof.Proof.Ideal.Ends

@[expose] public section

noncomputable section

namespace Cert.RunIdeal

open Cert.KernelIdeal Cert.KernelIdeal.Gen

open Idealize.ShloMosaic
open Idealize.ShloMosaic.TcCoe
open Idealize.ShloMosaic.ValueIdx (ix3 eq_ix3)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ)
variable (K : Dev nD × CI → ℕ)

/-- What device `c` holds between two steps: the lanes still to send (`l`), those sent (`d`), those still to be
    received (`r`) and those received (`e`), and the slots of the two buffers that can be read (`ks`, `kl`). -/
def St (c : Dev nD) (l d r e : List (Fin 17)) (ks : List (Fin 9)) (kl : List (Fin 8)) : sProp 𝕄 :=
  iprop(records m K ∗ levAts L lv ∗ owesE c (owedL c l) ∗ tokS c l ∗ dstL c l ∗ doneS c d ∗ todoR c r ∗ doneR c e ∗ keptR m c ks ∗ keptL m c kl)

variable (c : Dev nD) {l d r e : List (Fin 17)} {ks : List (Fin 9)} {kl : List (Fin 8)}

/-- Lane `x`'s transfer out of slot `h`. -/
theorem st_send_r {n : Dev nD} (x : Fin 17) (h h' : Fin 9) (hn : n = rgt c) (hp : peer x c = rgt c) (hh : h'.val = h.val + 1)
    (h₁ : srcPay m x c = rPt m h half₁ c) (h₂ : dstAny (F := F) x (rgt c) = rAny h' (rgt c))
    (h₃ : dstPay m x (rgt c) = iprop(rPt m h' half₁ (rgt c) ∗ rPt m h' half₂ (rgt c))) (hN : (rSl h').view.dmaCredit = amt x)
    {hsc : (rSl h' : Memref sig (Dev.tc n : Thread nD τ).2.kind .vmem S1024x128 .bf16).view.ref.isScScratch = false}
    {hsrc : (rSl h).view.WordExact} {hdst : (rSl h').view.WordExact}
    {hsem : DmaTarget.Typed .vmem (.dma (rN x)) (.remote (Dev.tc n : Thread nD τ) (rSl h') (.dma (sN x)) hsc)}
    {α : Type} {Q : α → sProp 𝕄} {k : PUnit → Prog (TpuEff nD τ sig (Elt F) Λ₀ .tc) α} :
    iprop(St m K c (x :: l) d r e ks kl ∗ rPt m h half₁ c)
      ⊢ iprop((St m K c l (x :: d) r e ks kl -∗ WP c (k ⟨⟩) Q)
          -∗ WP c (.op (.enqueueDma (rSl h) (.remote (Dev.tc n : Thread nD τ) (rSl h') (.dma (sN x)) hsc) (.dma (rN x)) hsrc hdst hsem) k) Q) := by
  unfold St
  iintro ⟨⟨#HR, #Hlev, HO, Ht, Hd, Hs, Hr, He, Hkr, Hkl⟩, H⟩ Hk
  iapply (send_r m K c n x h h' hn hp hh h₁ h₂ h₃ hN l d) $$ [HO Ht Hd Hs H]
  · isplitr; · iexact HR
    isplitl [HO]; · iexact HO
    isplitl [Ht]; · iexact Ht
    isplitl [Hd]; · iexact Hd
    isplitl [Hs]; · iexact Hs
    iexact H
  iintro ⟨HO, Ht, Hd, Hs⟩
  iapply Hk
  isplitr; · iexact HR
  isplitr; · iexact Hlev
  isplitl [HO]; · iexact HO
  isplitl [Ht]; · iexact Ht
  isplitl [Hd]; · iexact Hd
  isplitl [Hs]; · iexact Hs
  isplitl [Hr]; · iexact Hr
  isplitl [He]; · iexact He
  isplitl [Hkr]; · iexact Hkr
  iexact Hkl

/-- The wait for the landing in slot `h`. -/
theorem st_recv_r (x : Fin 17) (h : Fin 9) (h₃ : dstPay m x c = iprop(rPt m h half₁ c ∗ rPt m h half₂ c))
    {s s' : Shape} {et et' : EltTy} {src : Memref sig .tc .vmem s et} {dst : Memref sig .tc .vmem s' et'}
    {hsrc : src.view.WordExact} {hdst : dst.view.WordExact}
    {α : Type} {Q : α → sProp 𝕄} {k : PUnit → Prog (TpuEff nD τ sig (Elt F) Λ₀ .tc) α}
    (hN : dst.view.dmaCredit = amt x) (hl : ∀ y ∈ l, lvl x < lvl y) :
    St m K c l d (x :: r) e ks kl
      ⊢ iprop(((St m K c l d r (x :: e) (h :: ks) kl ∗ rPt m h half₁ c) -∗ WP c (k ⟨⟩) Q)
          -∗ WP c (.op (.waitDma2 (rN x) src dst hsrc hdst) k) Q) := by
  unfold St
  iintro ⟨#HR, #Hlev, HO, Ht, Hd, Hs, Hr, He, Hkr, Hkl⟩ Hk
  iapply (recv_r m K c x h h₃ hN l r e ks hl) $$ [HO Hr He Hkr]
  · isplitr; · iexact HR
    isplitr; · iexact Hlev
    isplitl [HO]; · iexact HO
    isplitl [Hr]; · iexact Hr
    isplitl [He]; · iexact He
    iexact Hkr
  iintro ⟨HO, Hr, He, H, Hkr⟩
  iapply Hk
  isplitr [H]
  swap; · iexact H
  isplitr; · iexact HR
  isplitr; · iexact Hlev
  isplitl [HO]; · iexact HO
  isplitl [Ht]; · iexact Ht
  isplitl [Hd]; · iexact Hd
  isplitl [Hs]; · iexact Hs
  isplitl [Hr]; · iexact Hr
  isplitl [He]; · iexact He
  isplitl [Hkr]; · iexact Hkr
  iexact Hkl

/-- The load of slot `h`'s keys. -/
theorem st_load_rk (h : Fin 9) {inb : ∀ a, (![h.val, 0, 0] : Fin 3 → ℕ) a + S1x512x128.size a ≤ S9x1024x128.size a}
    {hl : (rbM).view.LoadsAt (Rect.unit (s := S9x1024x128) ![h.val, 0, 0] S1x512x128.size inb).toLoadRect}
    {α : Type} {Q : α → sProp 𝕄} {k : Vec F S1x512x128 .bf16 → Prog (TpuEff nD τ sig (Elt F) Λ₀ .tc) α} :
    St m K c l d r e (h :: ks) kl ⊢ iprop((St m K c l d r e (h :: ks) kl -∗ WP c (k (kk m (lft^[h.val] c))) Q)
      -∗ WP c (.op (.load rbM (Rect.unit (s := S9x1024x128) ![h.val, 0, 0] S1x512x128.size inb).toLoadRect hl) k) Q) := by
  unfold St
  iintro ⟨#HR, #Hlev, HO, Ht, Hd, Hs, Hr, He, Hkr, Hkl⟩ Hk
  iapply (load_rk m c h ks) $$ Hkr
  iintro Hkr
  iapply Hk
  isplitr; · iexact HR
  isplitr; · iexact Hlev
  isplitl [HO]; · iexact HO
  isplitl [Ht]; · iexact Ht
  isplitl [Hd]; · iexact Hd
  isplitl [Hs]; · iexact Hs
  isplitl [Hr]; · iexact Hr
  isplitl [He]; · iexact He
  isplitl [Hkr]; · iexact Hkr
  iexact Hkl

/-- The load of slot `h`'s values. -/
theorem st_load_rv (h : Fin 9) {inb : ∀ a, (![h.val, 512, 0] : Fin 3 → ℕ) a + S1x512x128.size a ≤ S9x1024x128.size a}
    {hl : (rbM).view.LoadsAt (Rect.unit (s := S9x1024x128) ![h.val, 512, 0] S1x512x128.size inb).toLoadRect}
    {α : Type} {Q : α → sProp 𝕄} {k : Vec F S1x512x128 .bf16 → Prog (TpuEff nD τ sig (Elt F) Λ₀ .tc) α} :
    St m K c l d r e (h :: ks) kl ⊢ iprop((St m K c l d r e (h :: ks) kl -∗ WP c (k (vv m (lft^[h.val] c))) Q)
      -∗ WP c (.op (.load rbM (Rect.unit (s := S9x1024x128) ![h.val, 512, 0] S1x512x128.size inb).toLoadRect hl) k) Q) := by
  unfold St
  iintro ⟨#HR, #Hlev, HO, Ht, Hd, Hs, Hr, He, Hkr, Hkl⟩ Hk
  iapply (load_rv m c h ks) $$ Hkr
  iintro Hkr
  iapply Hk
  isplitr; · iexact HR
  isplitr; · iexact Hlev
  isplitl [HO]; · iexact HO
  isplitl [Ht]; · iexact Ht
  isplitl [Hd]; · iexact Hd
  isplitl [Hs]; · iexact Hs
  isplitl [Hr]; · iexact Hr
  isplitl [He]; · iexact He
  isplitl [Hkr]; · iexact Hkr
  iexact Hkl

/-- Lane `x`'s transfer out of slot `h`. -/
theorem st_send_l {n : Dev nD} (x : Fin 17) (h h' : Fin 8) (hn : n = lft c) (hp : peer x c = lft c) (hh : h'.val = h.val + 1)
    (h₁ : srcPay m x c = lPt m h half₁ c) (h₂ : dstAny (F := F) x (lft c) = lAny h' (lft c))
    (h₃ : dstPay m x (lft c) = iprop(lPt m h' half₁ (lft c) ∗ lPt m h' half₂ (lft c))) (hN : (lSl h').view.dmaCredit = amt x)
    {hsc : (lSl h' : Memref sig (Dev.tc n : Thread nD τ).2.kind .vmem S1024x128 .bf16).view.ref.isScScratch = false}
    {hsrc : (lSl h).view.WordExact} {hdst : (lSl h').view.WordExact}
    {hsem : DmaTarget.Typed .vmem (.dma (rN x)) (.remote (Dev.tc n : Thread nD τ) (lSl h') (.dma (sN x)) hsc)}
    {α : Type} {Q : α → sProp 𝕄} {k : PUnit → Prog (TpuEff nD τ sig (Elt F) Λ₀ .tc) α} :
    iprop(St m K c (x :: l) d r e ks kl ∗ lPt m h half₁ c)
      ⊢ iprop((St m K c l (x :: d) r e ks kl -∗ WP c (k ⟨⟩) Q)
          -∗ WP c (.op (.enqueueDma (lSl h) (.remote (Dev.tc n : Thread nD τ) (lSl h') (.dma (sN x)) hsc) (.dma (rN x)) hsrc hdst hsem) k) Q) := by
  unfold St
  iintro ⟨⟨#HR, #Hlev, HO, Ht, Hd, Hs, Hr, He, Hkr, Hkl⟩, H⟩ Hk
  iapply (send_l m K c n x h h' hn hp hh h₁ h₂ h₃ hN l d) $$ [HO Ht Hd Hs H]
  · isplitr; · iexact HR
    isplitl [HO]; · iexact HO
    isplitl [Ht]; · iexact Ht
    isplitl [Hd]; · iexact Hd
    isplitl [Hs]; · iexact Hs
    iexact H
  iintro ⟨HO, Ht, Hd, Hs⟩
  iapply Hk
  isplitr; · iexact HR
  isplitr; · iexact Hlev
  isplitl [HO]; · iexact HO
  isplitl [Ht]; · iexact Ht
  isplitl [Hd]; · iexact Hd
  isplitl [Hs]; · iexact Hs
  isplitl [Hr]; · iexact Hr
  isplitl [He]; · iexact He
  isplitl [Hkr]; · iexact Hkr
  iexact Hkl

/-- The wait for the landing in slot `h`. -/
theorem st_recv_l (x : Fin 17) (h : Fin 8) (h₃ : dstPay m x c = iprop(lPt m h half₁ c ∗ lPt m h half₂ c))
    {s s' : Shape} {et et' : EltTy} {src : Memref sig .tc .vmem s et} {dst : Memref sig .tc .vmem s' et'}
    {hsrc : src.view.WordExact} {hdst : dst.view.WordExact}
    {α : Type} {Q : α → sProp 𝕄} {k : PUnit → Prog (TpuEff nD τ sig (Elt F) Λ₀ .tc) α}
    (hN : dst.view.dmaCredit = amt x) (hl : ∀ y ∈ l, lvl x < lvl y) :
    St m K c l d (x :: r) e ks kl
      ⊢ iprop(((St m K c l d r (x :: e) ks (h :: kl) ∗ lPt m h half₁ c) -∗ WP c (k ⟨⟩) Q)
          -∗ WP c (.op (.waitDma2 (rN x) src dst hsrc hdst) k) Q) := by
  unfold St
  iintro ⟨#HR, #Hlev, HO, Ht, Hd, Hs, Hr, He, Hkr, Hkl⟩ Hk
  iapply (recv_l m K c x h h₃ hN l r e kl hl) $$ [HO Hr He Hkl]
  · isplitr; · iexact HR
    isplitr; · iexact Hlev
    isplitl [HO]; · iexact HO
    isplitl [Hr]; · iexact Hr
    isplitl [He]; · iexact He
    iexact Hkl
  iintro ⟨HO, Hr, He, H, Hkl⟩
  iapply Hk
  isplitr [H]
  swap; · iexact H
  isplitr; · iexact HR
  isplitr; · iexact Hlev
  isplitl [HO]; · iexact HO
  isplitl [Ht]; · iexact Ht
  isplitl [Hd]; · iexact Hd
  isplitl [Hs]; · iexact Hs
  isplitl [Hr]; · iexact Hr
  isplitl [He]; · iexact He
  isplitl [Hkr]; · iexact Hkr
  iexact Hkl

/-- The load of slot `h`'s keys. -/
theorem st_load_lk (h : Fin 8) {inb : ∀ a, (![h.val, 0, 0] : Fin 3 → ℕ) a + S1x512x128.size a ≤ S8x1024x128.size a}
    {hl : (lbM).view.LoadsAt (Rect.unit (s := S8x1024x128) ![h.val, 0, 0] S1x512x128.size inb).toLoadRect}
    {α : Type} {Q : α → sProp 𝕄} {k : Vec F S1x512x128 .bf16 → Prog (TpuEff nD τ sig (Elt F) Λ₀ .tc) α} :
    St m K c l d r e ks (h :: kl) ⊢ iprop((St m K c l d r e ks (h :: kl) -∗ WP c (k (kk m (rgt^[h.val] c))) Q)
      -∗ WP c (.op (.load lbM (Rect.unit (s := S8x1024x128) ![h.val, 0, 0] S1x512x128.size inb).toLoadRect hl) k) Q) := by
  unfold St
  iintro ⟨#HR, #Hlev, HO, Ht, Hd, Hs, Hr, He, Hkr, Hkl⟩ Hk
  iapply (load_lk m c h kl) $$ Hkl
  iintro Hkl
  iapply Hk
  isplitr; · iexact HR
  isplitr; · iexact Hlev
  isplitl [HO]; · iexact HO
  isplitl [Ht]; · iexact Ht
  isplitl [Hd]; · iexact Hd
  isplitl [Hs]; · iexact Hs
  isplitl [Hr]; · iexact Hr
  isplitl [He]; · iexact He
  isplitl [Hkr]; · iexact Hkr
  iexact Hkl

/-- The load of slot `h`'s values. -/
theorem st_load_lv (h : Fin 8) {inb : ∀ a, (![h.val, 512, 0] : Fin 3 → ℕ) a + S1x512x128.size a ≤ S8x1024x128.size a}
    {hl : (lbM).view.LoadsAt (Rect.unit (s := S8x1024x128) ![h.val, 512, 0] S1x512x128.size inb).toLoadRect}
    {α : Type} {Q : α → sProp 𝕄} {k : Vec F S1x512x128 .bf16 → Prog (TpuEff nD τ sig (Elt F) Λ₀ .tc) α} :
    St m K c l d r e ks (h :: kl) ⊢ iprop((St m K c l d r e ks (h :: kl) -∗ WP c (k (vv m (rgt^[h.val] c))) Q)
      -∗ WP c (.op (.load lbM (Rect.unit (s := S8x1024x128) ![h.val, 512, 0] S1x512x128.size inb).toLoadRect hl) k) Q) := by
  unfold St
  iintro ⟨#HR, #Hlev, HO, Ht, Hd, Hs, Hr, He, Hkr, Hkl⟩ Hk
  iapply (load_lv m c h kl) $$ Hkl
  iintro Hkl
  iapply Hk
  isplitr; · iexact HR
  isplitr; · iexact Hlev
  isplitl [HO]; · iexact HO
  isplitl [Ht]; · iexact Ht
  isplitl [Hd]; · iexact Hd
  isplitl [Hs]; · iexact Hs
  isplitl [Hr]; · iexact Hr
  isplitl [He]; · iexact He
  isplitl [Hkr]; · iexact Hkr
  iexact Hkl

/-- Lane 15's transfer. -/
theorem st_send_q {n : Dev nD} (hn : n = far c)
    {hsc : (qoM : Memref sig (Dev.tc n : Thread nD τ).2.kind .vmem S512x128 .bf16).view.ref.isScScratch = false}
    {hsrc : qmM.view.WordExact} {hdst : qoM.view.WordExact}
    {hsem : DmaTarget.Typed .vmem (.dma (rN 15)) (.remote (Dev.tc n : Thread nD τ) qoM (.dma (sN 15)) hsc)}
    {α : Type} {Q : α → sProp 𝕄} {k : PUnit → Prog (TpuEff nD τ sig (Elt F) Λ₀ .tc) α} :
    iprop(St m K c (15 :: l) d r e ks kl ∗ qmPt m half₁ c)
      ⊢ iprop((St m K c l (15 :: d) r e ks kl -∗ WP c (k ⟨⟩) Q)
          -∗ WP c (.op (.enqueueDma qmM (.remote (Dev.tc n : Thread nD τ) qoM (.dma (sN 15)) hsc) (.dma (rN 15)) hsrc hdst hsem) k) Q) := by
  unfold St
  iintro ⟨⟨#HR, #Hlev, HO, Ht, Hd, Hs, Hr, He, Hkr, Hkl⟩, H⟩ Hk
  iapply (send_q m K c n hn l d) $$ [HO Ht Hd Hs H]
  · isplitr; · iexact HR
    isplitl [HO]; · iexact HO
    isplitl [Ht]; · iexact Ht
    isplitl [Hd]; · iexact Hd
    isplitl [Hs]; · iexact Hs
    iexact H
  iintro ⟨HO, Ht, Hd, Hs⟩
  iapply Hk
  isplitr; · iexact HR
  isplitr; · iexact Hlev
  isplitl [HO]; · iexact HO
  isplitl [Ht]; · iexact Ht
  isplitl [Hd]; · iexact Hd
  isplitl [Hs]; · iexact Hs
  isplitl [Hr]; · iexact Hr
  isplitl [He]; · iexact He
  isplitl [Hkr]; · iexact Hkr
  iexact Hkl

/-- Lane 16's transfer. -/
theorem st_send_c {n : Dev nD} (hn : n = far c)
    {hsc : (raM : Memref sig (Dev.tc n : Thread nD τ).2.kind .vmem S512x256 .bf16).view.ref.isScScratch = false}
    {hsrc : saM.view.WordExact} {hdst : raM.view.WordExact}
    {hsem : DmaTarget.Typed .vmem (.dma (rN 16)) (.remote (Dev.tc n : Thread nD τ) raM (.dma (sN 16)) hsc)}
    {α : Type} {Q : α → sProp 𝕄} {k : PUnit → Prog (TpuEff nD τ sig (Elt F) Λ₀ .tc) α} :
    iprop(St m K c (16 :: l) d r e ks kl ∗ saPt m half₁ c)
      ⊢ iprop((St m K c l (16 :: d) r e ks kl -∗ WP c (k ⟨⟩) Q)
          -∗ WP c (.op (.enqueueDma saM (.remote (Dev.tc n : Thread nD τ) raM (.dma (sN 16)) hsc) (.dma (rN 16)) hsrc hdst hsem) k) Q) := by
  unfold St
  iintro ⟨⟨#HR, #Hlev, HO, Ht, Hd, Hs, Hr, He, Hkr, Hkl⟩, H⟩ Hk
  iapply (send_c m K c n hn l d) $$ [HO Ht Hd Hs H]
  · isplitr; · iexact HR
    isplitl [HO]; · iexact HO
    isplitl [Ht]; · iexact Ht
    isplitl [Hd]; · iexact Hd
    isplitl [Hs]; · iexact Hs
    iexact H
  iintro ⟨HO, Ht, Hd, Hs⟩
  iapply Hk
  isplitr; · iexact HR
  isplitr; · iexact Hlev
  isplitl [HO]; · iexact HO
  isplitl [Ht]; · iexact Ht
  isplitl [Hd]; · iexact Hd
  isplitl [Hs]; · iexact Hs
  isplitl [Hr]; · iexact Hr
  isplitl [He]; · iexact He
  isplitl [Hkr]; · iexact Hkr
  iexact Hkl

/-- The wait for a landing that is not a slot's. -/
theorem st_recv (x : Fin 17)
    {s s' : Shape} {et et' : EltTy} {src : Memref sig .tc .vmem s et} {dst : Memref sig .tc .vmem s' et'}
    {hsrc : src.view.WordExact} {hdst : dst.view.WordExact}
    {α : Type} {Q : α → sProp 𝕄} {k : PUnit → Prog (TpuEff nD τ sig (Elt F) Λ₀ .tc) α}
    (hN : dst.view.dmaCredit = amt x) (hl : ∀ y ∈ l, lvl x < lvl y) :
    St m K c l d (x :: r) e ks kl
      ⊢ iprop(((St m K c l d r (x :: e) ks kl ∗ dstPay m x c) -∗ WP c (k ⟨⟩) Q)
          -∗ WP c (.op (.waitDma2 (rN x) src dst hsrc hdst) k) Q) := by
  unfold St
  iintro ⟨#HR, #Hlev, HO, Ht, Hd, Hs, Hr, He, Hkr, Hkl⟩ Hk
  iapply (recv_step m K c x hN l r e hl) $$ [HO Hr He]
  · isplitr; · iexact HR
    isplitr; · iexact Hlev
    isplitl [HO]; · iexact HO
    isplitl [Hr]; · iexact Hr
    iexact He
  iintro ⟨HO, Hr, He, H⟩
  iapply Hk
  isplitr [H]
  swap; · iexact H
  isplitr; · iexact HR
  isplitr; · iexact Hlev
  isplitl [HO]; · iexact HO
  isplitl [Ht]; · iexact Ht
  isplitl [Hd]; · iexact Hd
  isplitl [Hs]; · iexact Hs
  isplitl [Hr]; · iexact Hr
  isplitl [He]; · iexact He
  isplitl [Hkr]; · iexact Hkr
  iexact Hkl

theorem hz : (![0, 0] : Fin 2 → Nat) = fun _ => 0 := funext fun a => by fin_cases a <;> rfl
abbrev stM (b : Ref sig .tc) := (Memref.whole b : Memref sig .tc _ _ _)

/-- `cc0_stg0_0` read whole. -/
theorem ld_q_ (q : PosShare TreeShare) (f : Buf (Elt F) ((c : Thread nD τ).loc cc0_stg0_0))
    {inb : ∀ a, (![0, 0] : Fin 2 → ℕ) a + S512x128.size a ≤ S512x128.size a}
    {hl : (Memref.whole cc0_stg0_0 : Memref sig .tc .vmem S512x128 .bf16).view.LoadsAt (Rect.unit (s := S512x128) ![0, 0] S512x128.size inb).toLoadRect}
    {α : Type} {Q : α → sProp 𝕄} {k : Vec F S512x128 .bf16 → Prog (TpuEff nD τ sig (Elt F) Λ₀ .tc) α} :
    ((c : Thread nD τ).loc cc0_stg0_0 ↦{q} f : sProp 𝕄) ⊢ iprop((((c : Thread nD τ).loc cc0_stg0_0 ↦{q} f) -∗ WP c (k f) Q)
      -∗ WP c (.op (.load (Memref.whole cc0_stg0_0 : Memref sig .tc .vmem S512x128 .bf16) (Rect.unit (s := S512x128) ![0, 0] S512x128.size inb).toLoadRect hl) k) Q) := by
  iintro H Hk
  iapply (wp_load 𝒱₀ (c : Thread nD τ) none Set.univ (m := (Memref.whole cc0_stg0_0 : Memref sig .tc .vmem S512x128 .bf16)) (f := f) (S := Finset.univ) (q := q) (Finset.subset_univ _)) $$ H
  iintro H
  rw [show (Memref.whole cc0_stg0_0 : Memref sig .tc .vmem S512x128 .bf16).view.readAt (Elt F) (Rect.unit (s := S512x128) ![0, 0] S512x128.size inb).toLoadRect f = f from Memref.readAt_unit_zero (Elt F) cc0_stg0_0 hz inb f]
  iapply Hk; iexact H

/-- `cc0_stg1_0` read whole. -/
theorem ld_k_ (q : PosShare TreeShare) (f : Buf (Elt F) ((c : Thread nD τ).loc cc0_stg1_0))
    {inb : ∀ a, (![0, 0] : Fin 2 → ℕ) a + S512x128.size a ≤ S512x128.size a}
    {hl : (Memref.whole cc0_stg1_0 : Memref sig .tc .vmem S512x128 .bf16).view.LoadsAt (Rect.unit (s := S512x128) ![0, 0] S512x128.size inb).toLoadRect}
    {α : Type} {Q : α → sProp 𝕄} {k : Vec F S512x128 .bf16 → Prog (TpuEff nD τ sig (Elt F) Λ₀ .tc) α} :
    ((c : Thread nD τ).loc cc0_stg1_0 ↦{q} f : sProp 𝕄) ⊢ iprop((((c : Thread nD τ).loc cc0_stg1_0 ↦{q} f) -∗ WP c (k f) Q)
      -∗ WP c (.op (.load (Memref.whole cc0_stg1_0 : Memref sig .tc .vmem S512x128 .bf16) (Rect.unit (s := S512x128) ![0, 0] S512x128.size inb).toLoadRect hl) k) Q) := by
  iintro H Hk
  iapply (wp_load 𝒱₀ (c : Thread nD τ) none Set.univ (m := (Memref.whole cc0_stg1_0 : Memref sig .tc .vmem S512x128 .bf16)) (f := f) (S := Finset.univ) (q := q) (Finset.subset_univ _)) $$ H
  iintro H
  rw [show (Memref.whole cc0_stg1_0 : Memref sig .tc .vmem S512x128 .bf16).view.readAt (Elt F) (Rect.unit (s := S512x128) ![0, 0] S512x128.size inb).toLoadRect f = f from Memref.readAt_unit_zero (Elt F) cc0_stg1_0 hz inb f]
  iapply Hk; iexact H

/-- `cc0_stg2_0` read whole. -/
theorem ld_v_ (q : PosShare TreeShare) (f : Buf (Elt F) ((c : Thread nD τ).loc cc0_stg2_0))
    {inb : ∀ a, (![0, 0] : Fin 2 → ℕ) a + S512x128.size a ≤ S512x128.size a}
    {hl : (Memref.whole cc0_stg2_0 : Memref sig .tc .vmem S512x128 .bf16).view.LoadsAt (Rect.unit (s := S512x128) ![0, 0] S512x128.size inb).toLoadRect}
    {α : Type} {Q : α → sProp 𝕄} {k : Vec F S512x128 .bf16 → Prog (TpuEff nD τ sig (Elt F) Λ₀ .tc) α} :
    ((c : Thread nD τ).loc cc0_stg2_0 ↦{q} f : sProp 𝕄) ⊢ iprop((((c : Thread nD τ).loc cc0_stg2_0 ↦{q} f) -∗ WP c (k f) Q)
      -∗ WP c (.op (.load (Memref.whole cc0_stg2_0 : Memref sig .tc .vmem S512x128 .bf16) (Rect.unit (s := S512x128) ![0, 0] S512x128.size inb).toLoadRect hl) k) Q) := by
  iintro H Hk
  iapply (wp_load 𝒱₀ (c : Thread nD τ) none Set.univ (m := (Memref.whole cc0_stg2_0 : Memref sig .tc .vmem S512x128 .bf16)) (f := f) (S := Finset.univ) (q := q) (Finset.subset_univ _)) $$ H
  iintro H
  rw [show (Memref.whole cc0_stg2_0 : Memref sig .tc .vmem S512x128 .bf16).view.readAt (Elt F) (Rect.unit (s := S512x128) ![0, 0] S512x128.size inb).toLoadRect f = f from Memref.readAt_unit_zero (Elt F) cc0_stg2_0 hz inb f]
  iapply Hk; iexact H

/-- `cc0_stg3_0` read whole. -/
theorem ld_o_ (q : PosShare TreeShare) (f : Buf (Elt F) ((c : Thread nD τ).loc cc0_stg3_0))
    {inb : ∀ a, (![0, 0] : Fin 2 → ℕ) a + S512x128.size a ≤ S512x128.size a}
    {hl : (Memref.whole cc0_stg3_0 : Memref sig .tc .vmem S512x128 .f32).view.LoadsAt (Rect.unit (s := S512x128) ![0, 0] S512x128.size inb).toLoadRect}
    {α : Type} {Q : α → sProp 𝕄} {k : Vec F S512x128 .f32 → Prog (TpuEff nD τ sig (Elt F) Λ₀ .tc) α} :
    ((c : Thread nD τ).loc cc0_stg3_0 ↦{q} f : sProp 𝕄) ⊢ iprop((((c : Thread nD τ).loc cc0_stg3_0 ↦{q} f) -∗ WP c (k f) Q)
      -∗ WP c (.op (.load (Memref.whole cc0_stg3_0 : Memref sig .tc .vmem S512x128 .f32) (Rect.unit (s := S512x128) ![0, 0] S512x128.size inb).toLoadRect hl) k) Q) := by
  iintro H Hk
  iapply (wp_load 𝒱₀ (c : Thread nD τ) none Set.univ (m := (Memref.whole cc0_stg3_0 : Memref sig .tc .vmem S512x128 .f32)) (f := f) (S := Finset.univ) (q := q) (Finset.subset_univ _)) $$ H
  iintro H
  rw [show (Memref.whole cc0_stg3_0 : Memref sig .tc .vmem S512x128 .f32).view.readAt (Elt F) (Rect.unit (s := S512x128) ![0, 0] S512x128.size inb).toLoadRect f = f from Memref.readAt_unit_zero (Elt F) cc0_stg3_0 hz inb f]
  iapply Hk; iexact H

/-- `cc0_scratch0` read whole. -/
theorem ld_qm (q : PosShare TreeShare) (f : Buf (Elt F) ((c : Thread nD τ).loc cc0_scratch0))
    {inb : ∀ a, (![0, 0] : Fin 2 → ℕ) a + S512x128.size a ≤ S512x128.size a}
    {hl : (Memref.whole cc0_scratch0 : Memref sig .tc .vmem S512x128 .bf16).view.LoadsAt (Rect.unit (s := S512x128) ![0, 0] S512x128.size inb).toLoadRect}
    {α : Type} {Q : α → sProp 𝕄} {k : Vec F S512x128 .bf16 → Prog (TpuEff nD τ sig (Elt F) Λ₀ .tc) α} :
    ((c : Thread nD τ).loc cc0_scratch0 ↦{q} f : sProp 𝕄) ⊢ iprop((((c : Thread nD τ).loc cc0_scratch0 ↦{q} f) -∗ WP c (k f) Q)
      -∗ WP c (.op (.load (Memref.whole cc0_scratch0 : Memref sig .tc .vmem S512x128 .bf16) (Rect.unit (s := S512x128) ![0, 0] S512x128.size inb).toLoadRect hl) k) Q) := by
  iintro H Hk
  iapply (wp_load 𝒱₀ (c : Thread nD τ) none Set.univ (m := (Memref.whole cc0_scratch0 : Memref sig .tc .vmem S512x128 .bf16)) (f := f) (S := Finset.univ) (q := q) (Finset.subset_univ _)) $$ H
  iintro H
  rw [show (Memref.whole cc0_scratch0 : Memref sig .tc .vmem S512x128 .bf16).view.readAt (Elt F) (Rect.unit (s := S512x128) ![0, 0] S512x128.size inb).toLoadRect f = f from Memref.readAt_unit_zero (Elt F) cc0_scratch0 hz inb f]
  iapply Hk; iexact H

/-- `cc0_scratch1` read whole. -/
theorem ld_qo (q : PosShare TreeShare) (f : Buf (Elt F) ((c : Thread nD τ).loc cc0_scratch1))
    {inb : ∀ a, (![0, 0] : Fin 2 → ℕ) a + S512x128.size a ≤ S512x128.size a}
    {hl : (Memref.whole cc0_scratch1 : Memref sig .tc .vmem S512x128 .bf16).view.LoadsAt (Rect.unit (s := S512x128) ![0, 0] S512x128.size inb).toLoadRect}
    {α : Type} {Q : α → sProp 𝕄} {k : Vec F S512x128 .bf16 → Prog (TpuEff nD τ sig (Elt F) Λ₀ .tc) α} :
    ((c : Thread nD τ).loc cc0_scratch1 ↦{q} f : sProp 𝕄) ⊢ iprop((((c : Thread nD τ).loc cc0_scratch1 ↦{q} f) -∗ WP c (k f) Q)
      -∗ WP c (.op (.load (Memref.whole cc0_scratch1 : Memref sig .tc .vmem S512x128 .bf16) (Rect.unit (s := S512x128) ![0, 0] S512x128.size inb).toLoadRect hl) k) Q) := by
  iintro H Hk
  iapply (wp_load 𝒱₀ (c : Thread nD τ) none Set.univ (m := (Memref.whole cc0_scratch1 : Memref sig .tc .vmem S512x128 .bf16)) (f := f) (S := Finset.univ) (q := q) (Finset.subset_univ _)) $$ H
  iintro H
  rw [show (Memref.whole cc0_scratch1 : Memref sig .tc .vmem S512x128 .bf16).view.readAt (Elt F) (Rect.unit (s := S512x128) ![0, 0] S512x128.size inb).toLoadRect f = f from Memref.readAt_unit_zero (Elt F) cc0_scratch1 hz inb f]
  iapply Hk; iexact H

/-- `cc0_scratch4` read whole. -/
theorem ld_sa (q : PosShare TreeShare) (f : Buf (Elt F) ((c : Thread nD τ).loc cc0_scratch4))
    {inb : ∀ a, (![0, 0] : Fin 2 → ℕ) a + S512x256.size a ≤ S512x256.size a}
    {hl : (Memref.whole cc0_scratch4 : Memref sig .tc .vmem S512x256 .bf16).view.LoadsAt (Rect.unit (s := S512x256) ![0, 0] S512x256.size inb).toLoadRect}
    {α : Type} {Q : α → sProp 𝕄} {k : Vec F S512x256 .bf16 → Prog (TpuEff nD τ sig (Elt F) Λ₀ .tc) α} :
    ((c : Thread nD τ).loc cc0_scratch4 ↦{q} f : sProp 𝕄) ⊢ iprop((((c : Thread nD τ).loc cc0_scratch4 ↦{q} f) -∗ WP c (k f) Q)
      -∗ WP c (.op (.load (Memref.whole cc0_scratch4 : Memref sig .tc .vmem S512x256 .bf16) (Rect.unit (s := S512x256) ![0, 0] S512x256.size inb).toLoadRect hl) k) Q) := by
  iintro H Hk
  iapply (wp_load 𝒱₀ (c : Thread nD τ) none Set.univ (m := (Memref.whole cc0_scratch4 : Memref sig .tc .vmem S512x256 .bf16)) (f := f) (S := Finset.univ) (q := q) (Finset.subset_univ _)) $$ H
  iintro H
  rw [show (Memref.whole cc0_scratch4 : Memref sig .tc .vmem S512x256 .bf16).view.readAt (Elt F) (Rect.unit (s := S512x256) ![0, 0] S512x256.size inb).toLoadRect f = f from Memref.readAt_unit_zero (Elt F) cc0_scratch4 hz inb f]
  iapply Hk; iexact H

/-- `cc0_scratch5` read whole. -/
theorem ld_ra (q : PosShare TreeShare) (f : Buf (Elt F) ((c : Thread nD τ).loc cc0_scratch5))
    {inb : ∀ a, (![0, 0] : Fin 2 → ℕ) a + S512x256.size a ≤ S512x256.size a}
    {hl : (Memref.whole cc0_scratch5 : Memref sig .tc .vmem S512x256 .bf16).view.LoadsAt (Rect.unit (s := S512x256) ![0, 0] S512x256.size inb).toLoadRect}
    {α : Type} {Q : α → sProp 𝕄} {k : Vec F S512x256 .bf16 → Prog (TpuEff nD τ sig (Elt F) Λ₀ .tc) α} :
    ((c : Thread nD τ).loc cc0_scratch5 ↦{q} f : sProp 𝕄) ⊢ iprop((((c : Thread nD τ).loc cc0_scratch5 ↦{q} f) -∗ WP c (k f) Q)
      -∗ WP c (.op (.load (Memref.whole cc0_scratch5 : Memref sig .tc .vmem S512x256 .bf16) (Rect.unit (s := S512x256) ![0, 0] S512x256.size inb).toLoadRect hl) k) Q) := by
  iintro H Hk
  iapply (wp_load 𝒱₀ (c : Thread nD τ) none Set.univ (m := (Memref.whole cc0_scratch5 : Memref sig .tc .vmem S512x256 .bf16)) (f := f) (S := Finset.univ) (q := q) (Finset.subset_univ _)) $$ H
  iintro H
  rw [show (Memref.whole cc0_scratch5 : Memref sig .tc .vmem S512x256 .bf16).view.readAt (Elt F) (Rect.unit (s := S512x256) ![0, 0] S512x256.size inb).toLoadRect f = f from Memref.readAt_unit_zero (Elt F) cc0_scratch5 hz inb f]
  iapply Hk; iexact H

/-- `cc0_stg3_0` stored whole. -/
theorem wr_o_ (w : Vec F S512x128 .f32) {inb : ∀ a, (![0, 0] : Fin 2 → ℕ) a + S512x128.size a ≤ S512x128.size a}
    {hx : ((Memref.whole cc0_stg3_0 : Memref sig .tc .vmem S512x128 .f32).access (Rect.unit (s := S512x128) ![0, 0] S512x128.size inb)).Stores Finset.univ}
    {hm : (Finset.univ : Finset (Rect.unit (s := S512x128) ![0, 0] S512x128.size inb).shape.Idx) = Finset.univ ∨ ∀ a, (Rect.unit (s := S512x128) ![0, 0] S512x128.size inb).stride a = 1}
    {α : Type} {Q : α → sProp 𝕄} {k : PUnit → Prog (TpuEff nD τ sig (Elt F) Λ₀ .tc) α} (f : Buf (Elt F) ((c : Thread nD τ).loc cc0_stg3_0)) :
    ((c : Thread nD τ).loc cc0_stg3_0 ↦{fullShare} f : sProp 𝕄) ⊢ iprop((((c : Thread nD τ).loc cc0_stg3_0 ↦{fullShare} (w : Buf (Elt F) ((c : Thread nD τ).loc cc0_stg3_0))) -∗ WP c (k ⟨⟩) Q)
      -∗ WP c (.op (.store (Memref.whole cc0_stg3_0 : Memref sig .tc .vmem S512x128 .f32) (Rect.unit (s := S512x128) ![0, 0] S512x128.size inb) w Finset.univ hx hm) k) Q) := by
  iintro H Hk
  iapply (wp_store 𝒱₀ (c : Thread nD τ) none Set.univ (m := (Memref.whole cc0_stg3_0 : Memref sig .tc .vmem S512x128 .f32)) (r := Rect.unit (s := S512x128) ![0, 0] S512x128.size inb) (w := w) (Mk := Finset.univ) (f := f) (S := Finset.univ) (Finset.subset_univ _)) $$ H
  iintro H
  rw [show ((Memref.whole cc0_stg3_0 : Memref sig .tc .vmem S512x128 .f32).access (Rect.unit (s := S512x128) ![0, 0] S512x128.size inb)).write (Elt F) f w Finset.univ = w from Memref.write_access_unit_zero_univ (Elt F) cc0_stg3_0 hz inb f w]
  iapply Hk; iexact H

/-- `cc0_scratch0` stored whole. -/
theorem wr_qm (w : Vec F S512x128 .bf16) {inb : ∀ a, (![0, 0] : Fin 2 → ℕ) a + S512x128.size a ≤ S512x128.size a}
    {hx : ((Memref.whole cc0_scratch0 : Memref sig .tc .vmem S512x128 .bf16).access (Rect.unit (s := S512x128) ![0, 0] S512x128.size inb)).Stores Finset.univ}
    {hm : (Finset.univ : Finset (Rect.unit (s := S512x128) ![0, 0] S512x128.size inb).shape.Idx) = Finset.univ ∨ ∀ a, (Rect.unit (s := S512x128) ![0, 0] S512x128.size inb).stride a = 1}
    {α : Type} {Q : α → sProp 𝕄} {k : PUnit → Prog (TpuEff nD τ sig (Elt F) Λ₀ .tc) α} (f : Buf (Elt F) ((c : Thread nD τ).loc cc0_scratch0)) :
    ((c : Thread nD τ).loc cc0_scratch0 ↦{fullShare} f : sProp 𝕄) ⊢ iprop((((c : Thread nD τ).loc cc0_scratch0 ↦{fullShare} (w : Buf (Elt F) ((c : Thread nD τ).loc cc0_scratch0))) -∗ WP c (k ⟨⟩) Q)
      -∗ WP c (.op (.store (Memref.whole cc0_scratch0 : Memref sig .tc .vmem S512x128 .bf16) (Rect.unit (s := S512x128) ![0, 0] S512x128.size inb) w Finset.univ hx hm) k) Q) := by
  iintro H Hk
  iapply (wp_store 𝒱₀ (c : Thread nD τ) none Set.univ (m := (Memref.whole cc0_scratch0 : Memref sig .tc .vmem S512x128 .bf16)) (r := Rect.unit (s := S512x128) ![0, 0] S512x128.size inb) (w := w) (Mk := Finset.univ) (f := f) (S := Finset.univ) (Finset.subset_univ _)) $$ H
  iintro H
  rw [show ((Memref.whole cc0_scratch0 : Memref sig .tc .vmem S512x128 .bf16).access (Rect.unit (s := S512x128) ![0, 0] S512x128.size inb)).write (Elt F) f w Finset.univ = w from Memref.write_access_unit_zero_univ (Elt F) cc0_scratch0 hz inb f w]
  iapply Hk; iexact H

/-- `cc0_scratch4` stored whole. -/
theorem wr_sa (w : Vec F S512x256 .bf16) {inb : ∀ a, (![0, 0] : Fin 2 → ℕ) a + S512x256.size a ≤ S512x256.size a}
    {hx : ((Memref.whole cc0_scratch4 : Memref sig .tc .vmem S512x256 .bf16).access (Rect.unit (s := S512x256) ![0, 0] S512x256.size inb)).Stores Finset.univ}
    {hm : (Finset.univ : Finset (Rect.unit (s := S512x256) ![0, 0] S512x256.size inb).shape.Idx) = Finset.univ ∨ ∀ a, (Rect.unit (s := S512x256) ![0, 0] S512x256.size inb).stride a = 1}
    {α : Type} {Q : α → sProp 𝕄} {k : PUnit → Prog (TpuEff nD τ sig (Elt F) Λ₀ .tc) α} (f : Buf (Elt F) ((c : Thread nD τ).loc cc0_scratch4)) :
    ((c : Thread nD τ).loc cc0_scratch4 ↦{fullShare} f : sProp 𝕄) ⊢ iprop((((c : Thread nD τ).loc cc0_scratch4 ↦{fullShare} (w : Buf (Elt F) ((c : Thread nD τ).loc cc0_scratch4))) -∗ WP c (k ⟨⟩) Q)
      -∗ WP c (.op (.store (Memref.whole cc0_scratch4 : Memref sig .tc .vmem S512x256 .bf16) (Rect.unit (s := S512x256) ![0, 0] S512x256.size inb) w Finset.univ hx hm) k) Q) := by
  iintro H Hk
  iapply (wp_store 𝒱₀ (c : Thread nD τ) none Set.univ (m := (Memref.whole cc0_scratch4 : Memref sig .tc .vmem S512x256 .bf16)) (r := Rect.unit (s := S512x256) ![0, 0] S512x256.size inb) (w := w) (Mk := Finset.univ) (f := f) (S := Finset.univ) (Finset.subset_univ _)) $$ H
  iintro H
  rw [show ((Memref.whole cc0_scratch4 : Memref sig .tc .vmem S512x256 .bf16).access (Rect.unit (s := S512x256) ![0, 0] S512x256.size inb)).write (Elt F) f w Finset.univ = w from Memref.write_access_unit_zero_univ (Elt F) cc0_scratch4 hz inb f w]
  iapply Hk; iexact H

/-- Slot 0 stored: the device's own keys, then its own values; a half to send on, a half kept. -/
theorem fill_step_r {inb₁ : ∀ a, (![0, 0, 0] : Fin 3 → ℕ) a + S1x512x128.size a ≤ S9x1024x128.size a} {inb₂ : ∀ a, (![0, 512, 0] : Fin 3 → ℕ) a + S1x512x128.size a ≤ S9x1024x128.size a}
    {hl₁ : (rbM).view.LoadsAt (Rect.unit (s := S9x1024x128) ![0, 0, 0] S1x512x128.size inb₁).toLoadRect}
    {hl₂ : (rbM).view.LoadsAt (Rect.unit (s := S9x1024x128) ![0, 512, 0] S1x512x128.size inb₂).toLoadRect}
    {hx₁ : ((rbM).access (Rect.unit (s := S9x1024x128) ![0, 0, 0] S1x512x128.size inb₁)).Stores Finset.univ}
    {hx₂ : ((rbM).access (Rect.unit (s := S9x1024x128) ![0, 512, 0] S1x512x128.size inb₂)).Stores Finset.univ}
    {hm₁ : (Finset.univ : Finset (Rect.unit (s := S9x1024x128) ![0, 0, 0] S1x512x128.size inb₁).shape.Idx) = Finset.univ ∨ ∀ a, (Rect.unit (s := S9x1024x128) ![0, 0, 0] S1x512x128.size inb₁).stride a = 1}
    {hm₂ : (Finset.univ : Finset (Rect.unit (s := S9x1024x128) ![0, 512, 0] S1x512x128.size inb₂).shape.Idx) = Finset.univ ∨ ∀ a, (Rect.unit (s := S9x1024x128) ![0, 512, 0] S1x512x128.size inb₂).stride a = 1}
    {α : Type} {Q : α → sProp 𝕄} {k : PUnit → Prog (TpuEff nD τ sig (Elt F) Λ₀ .tc) α} :
    rAny (F := F) 0 c ⊢ iprop((((rPt m 0 half₁ c) ∗ rPt m 0 half₂ c) -∗ WP c (k ⟨⟩) Q)
      -∗ WP c (.op (.load rbM (Rect.unit (s := S9x1024x128) ![0, 0, 0] S1x512x128.size inb₁).toLoadRect hl₁) fun _ =>
          .op (.store rbM (Rect.unit (s := S9x1024x128) ![0, 0, 0] S1x512x128.size inb₁) (kk m c) Finset.univ hx₁ hm₁) fun _ =>
          .op (.load rbM (Rect.unit (s := S9x1024x128) ![0, 512, 0] S1x512x128.size inb₂).toLoadRect hl₂) fun _ =>
          .op (.store rbM (Rect.unit (s := S9x1024x128) ![0, 512, 0] S1x512x128.size inb₂) (vv m c) Finset.univ hx₂ hm₂) k) Q) := by
  unfold rAny
  iintro ⟨%f, H⟩ Hk
  iapply (wp_load 𝒱₀ (c : Thread nD τ) none Set.univ (m := rbM) (S := (rSl 0).view.set) (f := f) (by
    show Finset.map _ _ ⊆ _
    rw [show ((rbM).view.emb : _ ↪ _) = Function.Embedding.refl _ from rfl, Finset.map_refl]; exact sub_r 0 0 (by omega) inb₁)) $$ H
  iintro H
  iapply (wp_store 𝒱₀ (c : Thread nD τ) none Set.univ (m := rbM) (r := Rect.unit (s := S9x1024x128) ![0, 0, 0] S1x512x128.size inb₁) (w := kk m c) (Mk := Finset.univ) (f := f) (S := (rSl 0).view.set) (by
    rw [View.setOn_univ, View.set_slice_whole]; exact sub_r 0 0 (by omega) inb₁)) $$ H
  iintro H
  iapply (wp_load 𝒱₀ (c : Thread nD τ) none Set.univ (m := rbM) (S := (rSl 0).view.set) (by
    show Finset.map _ _ ⊆ _
    rw [show ((rbM).view.emb : _ ↪ _) = Function.Embedding.refl _ from rfl, Finset.map_refl]; exact sub_r 0 512 (by omega) inb₂)) $$ H
  iintro H
  iapply (wp_store 𝒱₀ (c : Thread nD τ) none Set.univ (m := rbM) (r := Rect.unit (s := S9x1024x128) ![0, 512, 0] S1x512x128.size inb₂) (w := vv m c) (Mk := Finset.univ) (S := (rSl 0).view.set) (by
    rw [View.setOn_univ, View.set_slice_whole]; exact sub_r 0 512 (by omega) inb₂)) $$ H
  iintro H
  iapply Hk
  ihave H := (Entails.of_eq (pointsTo_congr (fill_r m c f inb₁ inb₂))) $$ H
  unfold rPt
  iapply halves.1; iexact H

/-- Slot 0 stored: the device's own keys, then its own values; a half to send on, a half kept. -/
theorem fill_step_l {inb₁ : ∀ a, (![0, 0, 0] : Fin 3 → ℕ) a + S1x512x128.size a ≤ S8x1024x128.size a} {inb₂ : ∀ a, (![0, 512, 0] : Fin 3 → ℕ) a + S1x512x128.size a ≤ S8x1024x128.size a}
    {hl₁ : (lbM).view.LoadsAt (Rect.unit (s := S8x1024x128) ![0, 0, 0] S1x512x128.size inb₁).toLoadRect}
    {hl₂ : (lbM).view.LoadsAt (Rect.unit (s := S8x1024x128) ![0, 512, 0] S1x512x128.size inb₂).toLoadRect}
    {hx₁ : ((lbM).access (Rect.unit (s := S8x1024x128) ![0, 0, 0] S1x512x128.size inb₁)).Stores Finset.univ}
    {hx₂ : ((lbM).access (Rect.unit (s := S8x1024x128) ![0, 512, 0] S1x512x128.size inb₂)).Stores Finset.univ}
    {hm₁ : (Finset.univ : Finset (Rect.unit (s := S8x1024x128) ![0, 0, 0] S1x512x128.size inb₁).shape.Idx) = Finset.univ ∨ ∀ a, (Rect.unit (s := S8x1024x128) ![0, 0, 0] S1x512x128.size inb₁).stride a = 1}
    {hm₂ : (Finset.univ : Finset (Rect.unit (s := S8x1024x128) ![0, 512, 0] S1x512x128.size inb₂).shape.Idx) = Finset.univ ∨ ∀ a, (Rect.unit (s := S8x1024x128) ![0, 512, 0] S1x512x128.size inb₂).stride a = 1}
    {α : Type} {Q : α → sProp 𝕄} {k : PUnit → Prog (TpuEff nD τ sig (Elt F) Λ₀ .tc) α} :
    lAny (F := F) 0 c ⊢ iprop((((lPt m 0 half₁ c) ∗ lPt m 0 half₂ c) -∗ WP c (k ⟨⟩) Q)
      -∗ WP c (.op (.load lbM (Rect.unit (s := S8x1024x128) ![0, 0, 0] S1x512x128.size inb₁).toLoadRect hl₁) fun _ =>
          .op (.store lbM (Rect.unit (s := S8x1024x128) ![0, 0, 0] S1x512x128.size inb₁) (kk m c) Finset.univ hx₁ hm₁) fun _ =>
          .op (.load lbM (Rect.unit (s := S8x1024x128) ![0, 512, 0] S1x512x128.size inb₂).toLoadRect hl₂) fun _ =>
          .op (.store lbM (Rect.unit (s := S8x1024x128) ![0, 512, 0] S1x512x128.size inb₂) (vv m c) Finset.univ hx₂ hm₂) k) Q) := by
  unfold lAny
  iintro ⟨%f, H⟩ Hk
  iapply (wp_load 𝒱₀ (c : Thread nD τ) none Set.univ (m := lbM) (S := (lSl 0).view.set) (f := f) (by
    show Finset.map _ _ ⊆ _
    rw [show ((lbM).view.emb : _ ↪ _) = Function.Embedding.refl _ from rfl, Finset.map_refl]; exact sub_l 0 0 (by omega) inb₁)) $$ H
  iintro H
  iapply (wp_store 𝒱₀ (c : Thread nD τ) none Set.univ (m := lbM) (r := Rect.unit (s := S8x1024x128) ![0, 0, 0] S1x512x128.size inb₁) (w := kk m c) (Mk := Finset.univ) (f := f) (S := (lSl 0).view.set) (by
    rw [View.setOn_univ, View.set_slice_whole]; exact sub_l 0 0 (by omega) inb₁)) $$ H
  iintro H
  iapply (wp_load 𝒱₀ (c : Thread nD τ) none Set.univ (m := lbM) (S := (lSl 0).view.set) (by
    show Finset.map _ _ ⊆ _
    rw [show ((lbM).view.emb : _ ↪ _) = Function.Embedding.refl _ from rfl, Finset.map_refl]; exact sub_l 0 512 (by omega) inb₂)) $$ H
  iintro H
  iapply (wp_store 𝒱₀ (c : Thread nD τ) none Set.univ (m := lbM) (r := Rect.unit (s := S8x1024x128) ![0, 512, 0] S1x512x128.size inb₂) (w := vv m c) (Mk := Finset.univ) (S := (lSl 0).view.set) (by
    rw [View.setOn_univ, View.set_slice_whole]; exact sub_l 0 512 (by omega) inb₂)) $$ H
  iintro H
  iapply Hk
  ihave H := (Entails.of_eq (pointsTo_congr (fill_l m c f inb₁ inb₂))) $$ H
  unfold lPt
  iapply halves.1; iexact H

end Cert.RunIdeal
-- ==== Proof.Ideal.Parts.lean ====
/-
The parts of the kernel's body, each from the state it starts in to the state it leaves.
-/
module

public import proofs.«01_k».proof.Proof.Ideal.Run

@[expose] public section

noncomputable section

namespace Cert.RunIdeal

open Cert.KernelIdeal Cert.KernelIdeal.Gen

open Idealize.ShloMosaic
open Idealize.ShloMosaic.TcCoe
open Idealize.ShloMosaic.ValueIdx (ix3 eq_ix3)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ)
variable (K : Dev nD × CI → ℕ)
variable (c : Dev nD)

/-! ## The folds: the kernel writes each one out anew; all are the same step -/

theorem accR (n : ℕ) : acc m c (2 * n + 1) = k0_pay11 (qall m c) (k0_pay9 (F := F)) (acc m c (2 * n)) (kk m (lft^[n + 1] c)) (vv m (lft^[n + 1] c)) := by
  have e : nth c (2 * n + 1) = lft^[n + 1] c := by
    unfold nth; rw [if_pos (by omega), show (2 * n + 1 + 1) / 2 = n + 1 by omega]
  rw [acc, e]
theorem accL (n : ℕ) : acc m c (2 * n + 2) = k0_pay11 (qall m c) (k0_pay9 (F := F)) (acc m c (2 * n + 1)) (kk m (rgt^[n + 1] c)) (vv m (rgt^[n + 1] c)) := by
  have e : nth c (2 * n + 2) = rgt^[n + 1] c := by
    unfold nth; rw [if_neg (by omega), show (2 * n + 2) / 2 = n + 1 by omega]
  rw [acc, e]

section Gen
variable (q : FVec F S1024x128 .bf16) (p : FVec F S512x128 .bf16) (x y : FVec F S1024x256 .f32) (k v k' v' : Vec F S1x512x128 .bf16)
theorem pay12_eq : k0_pay12 q p x k v = k0_pay11 q p x k v := rfl
theorem pay13_eq : k0_pay13 q p x k v = k0_pay11 q p x k v := rfl
theorem pay14_eq : k0_pay14 q p x k v = k0_pay11 q p x k v := rfl
theorem pay15_eq : k0_pay15 q p x k v = k0_pay11 q p x k v := rfl
theorem pay16_eq : k0_pay16 q p x k v = k0_pay11 q p x k v := rfl
theorem pay18_eq : k0_pay18 q p x (k0_pay17 k) v = k0_pay11 q p x k v := rfl
theorem pay20_eq : k0_pay20 q p x (k0_pay19 k) v = k0_pay11 q p x k v := rfl
theorem pay23_eq : k0_pay23 q p x (k0_pay21 k) (k0_pay22 v) = k0_pay11 q p x k v := rfl
theorem pay26_eq : k0_pay26 q x (k0_pay24 k) (k0_pay25 p v) (constant S1024x512 .f32 0x00000000#32) = k0_pay11 q p x k v := rfl
theorem pay29_eq : k0_pay29 x (k0_pay27 p v) (k0_pay28 q k) = k0_pay11 q p x k v := rfl
theorem pay32_eq : k0_pay32 q p x (k0_pay30 p v) (k0_pay31 q k) (constant S1024x256 .f32 0x00000000#32) k' v' = k0_pay11 q p (k0_pay11 q p x k v) k' v' := rfl
theorem pay33_eq : k0_pay33 q p x k v = k0_pay11 q p x k v := rfl
theorem pay34_eq : k0_pay34 q p x k v = k0_pay11 q p x k v := rfl
end Gen
theorem fold1 : k0_pay11 (qall m c) (k0_pay9 (F := F)) (acc m c 0) (kk m (lft^[(1 : Fin 9).val] c)) (vv m (lft^[(1 : Fin 9).val] c)) = acc m c 1 := by exact (accR m c 0).symm
theorem fold2 : k0_pay12 (qall m c) (k0_pay9 (F := F)) (acc m c 1) (kk m (rgt^[(1 : Fin 8).val] c)) (vv m (rgt^[(1 : Fin 8).val] c)) = acc m c 2 := by rw [pay12_eq]; exact (accL m c 0).symm
theorem fold3 : k0_pay13 (qall m c) (k0_pay9 (F := F)) (acc m c 2) (kk m (lft^[(2 : Fin 9).val] c)) (vv m (lft^[(2 : Fin 9).val] c)) = acc m c 3 := by rw [pay13_eq]; exact (accR m c 1).symm
theorem fold4 : k0_pay14 (qall m c) (k0_pay9 (F := F)) (acc m c 3) (kk m (rgt^[(2 : Fin 8).val] c)) (vv m (rgt^[(2 : Fin 8).val] c)) = acc m c 4 := by rw [pay14_eq]; exact (accL m c 1).symm
theorem fold5 : k0_pay15 (qall m c) (k0_pay9 (F := F)) (acc m c 4) (kk m (lft^[(3 : Fin 9).val] c)) (vv m (lft^[(3 : Fin 9).val] c)) = acc m c 5 := by rw [pay15_eq]; exact (accR m c 2).symm
theorem fold6 : k0_pay16 (qall m c) (k0_pay9 (F := F)) (acc m c 5) (kk m (rgt^[(3 : Fin 8).val] c)) (vv m (rgt^[(3 : Fin 8).val] c)) = acc m c 6 := by rw [pay16_eq]; exact (accL m c 2).symm
theorem fold7 : k0_pay18 (qall m c) (k0_pay9 (F := F)) (acc m c 6) (k0_pay17 (kk m (lft^[(4 : Fin 9).val] c))) (vv m (lft^[(4 : Fin 9).val] c)) = acc m c 7 := by rw [pay18_eq]; exact (accR m c 3).symm
theorem fold8 : k0_pay20 (qall m c) (k0_pay9 (F := F)) (acc m c 7) (k0_pay19 (kk m (rgt^[(4 : Fin 8).val] c))) (vv m (rgt^[(4 : Fin 8).val] c)) = acc m c 8 := by rw [pay20_eq]; exact (accL m c 3).symm
theorem fold9 : k0_pay23 (qall m c) (k0_pay9 (F := F)) (acc m c 8) (k0_pay21 (kk m (lft^[(5 : Fin 9).val] c))) (k0_pay22 (vv m (lft^[(5 : Fin 9).val] c))) = acc m c 9 := by rw [pay23_eq]; exact (accR m c 4).symm
theorem fold10 : k0_pay26 (qall m c) (acc m c 9) (k0_pay24 (kk m (rgt^[(5 : Fin 8).val] c))) (k0_pay25 (k0_pay9 (F := F)) (vv m (rgt^[(5 : Fin 8).val] c))) (constant S1024x512 .f32 0x00000000#32) = acc m c 10 := by rw [pay26_eq]; exact (accL m c 4).symm
theorem fold11 : k0_pay29 (acc m c 10) (k0_pay27 (k0_pay9 (F := F)) (vv m (lft^[(6 : Fin 9).val] c))) (k0_pay28 (qall m c) (kk m (lft^[(6 : Fin 9).val] c))) = acc m c 11 := by rw [pay29_eq]; exact (accR m c 5).symm
theorem fold13 : k0_pay32 (qall m c) (k0_pay9 (F := F)) (acc m c 11) (k0_pay30 (k0_pay9 (F := F)) (vv m (rgt^[(6 : Fin 8).val] c))) (k0_pay31 (qall m c) (kk m (rgt^[(6 : Fin 8).val] c))) (constant S1024x256 .f32 0x00000000#32) (kk m (lft^[(7 : Fin 9).val] c)) (vv m (lft^[(7 : Fin 9).val] c)) = acc m c 13 := by rw [pay32_eq]; rw [show k0_pay11 (qall m c) (k0_pay9 (F := F)) (acc m c 11) (kk m (rgt^[(6 : Fin 8).val] c)) (vv m (rgt^[(6 : Fin 8).val] c)) = acc m c 12 from (accL m c 5).symm]; exact (accR m c 6).symm
theorem fold14 : k0_pay33 (qall m c) (k0_pay9 (F := F)) (acc m c 13) (kk m (rgt^[(7 : Fin 8).val] c)) (vv m (rgt^[(7 : Fin 8).val] c)) = acc m c 14 := by rw [pay33_eq]; exact (accL m c 6).symm

set_option maxRecDepth 65536 in
/-- Part 6: the second hop to the right, and the first fold. -/
theorem part6_ok (v54 : BitVec 32) {Q : FVec F S1024x256 .f32 → sProp 𝕄} :
    iprop(St m K c [1, 9, 2, 10, 3, 11, 4, 12, 5, 13, 6, 14, 7, 16] [8, 0, 15] [8, 1, 9, 2, 10, 3, 11, 4, 12, 5, 13, 6, 14, 7, 16] [0, 15] [1, 0] [0] ∗ rPt m 1 half₁ c) ⊢ iprop(((St m K c [9, 2, 10, 3, 11, 4, 12, 5, 13, 6, 14, 7, 16] [1, 8, 0, 15] [1, 9, 2, 10, 3, 11, 4, 12, 5, 13, 6, 14, 7, 16] [8, 0, 15] [1, 0] [1, 0] ∗ lPt m 1 half₁ c) -∗ Q (acc m c 1)) -∗ WP c (k0_part6 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 c v54 (qall m c) (k0_pay9 (F := F)) (acc m c 0)) Q) := by
  rw [k0_part6_eq_skeleton]; unfold k0_part6_skel
  simp only [Prog.lift, Prog.bind_op, Prog.bind_ret, Prog.pure_eq_ret]
  iintro ⟨H, Hr⟩ Hk
  iapply (st_send_r m K c 1 1 2 (dev7_at c) rfl rfl rfl rfl rfl rfl) $$ [H Hr]
  · isplitl [H] <;> iassumption
  iintro H
  iapply (st_load_rk m K c 1) $$ H
  iintro H
  iapply (st_load_rv m K c 1) $$ H
  iintro H
  iapply (st_recv_l m K c 8 1 rfl (src := lSl 0) (dst := lSl 1) rfl (by decide)) $$ H
  iintro ⟨H, Hl⟩
  unfold WP; rw [wp_ret]; rw [fold1]; imodintro
  iapply Hk
  isplitl [H]; · iexact H
  iexact Hl

set_option maxRecDepth 65536 in
/-- Part 7: the second hop to the left, and a fold. -/
theorem part7_ok (v42 : BitVec 32) {Q : FVec F S1024x256 .f32 → sProp 𝕄} :
    iprop(St m K c [9, 2, 10, 3, 11, 4, 12, 5, 13, 6, 14, 7, 16] [1, 8, 0, 15] [1, 9, 2, 10, 3, 11, 4, 12, 5, 13, 6, 14, 7, 16] [8, 0, 15] [1, 0] [1, 0] ∗ lPt m 1 half₁ c) ⊢ iprop(((St m K c [2, 10, 3, 11, 4, 12, 5, 13, 6, 14, 7, 16] [9, 1, 8, 0, 15] [9, 2, 10, 3, 11, 4, 12, 5, 13, 6, 14, 7, 16] [1, 8, 0, 15] [2, 1, 0] [1, 0] ∗ rPt m 2 half₁ c) -∗ Q (acc m c 2)) -∗ WP c (k0_part7 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 c v42 (qall m c) (k0_pay9 (F := F)) (acc m c 1)) Q) := by
  rw [k0_part7_eq_skeleton]; unfold k0_part7_skel
  simp only [Prog.lift, Prog.bind_op, Prog.bind_ret, Prog.pure_eq_ret]
  iintro ⟨H, Hl⟩ Hk
  iapply (st_send_l m K c 9 1 2 (dev8_at c) rfl rfl rfl rfl rfl rfl) $$ [H Hl]
  · isplitl [H] <;> iassumption
  iintro H
  iapply (st_load_lk m K c 1) $$ H
  iintro H
  iapply (st_load_lv m K c 1) $$ H
  iintro H
  iapply (st_recv_r m K c 1 2 rfl (src := rSl 1) (dst := rSl 2) rfl (by decide)) $$ H
  iintro ⟨H, Hr⟩
  unfold WP; rw [wp_ret]; rw [fold2]; imodintro
  iapply Hk
  isplitl [H]; · iexact H
  iexact Hr

set_option maxRecDepth 65536 in
/-- Part 8: the third hops, and a fold. -/
theorem part8_ok (v54 : BitVec 32) {Q : FVec F S1024x256 .f32 → sProp 𝕄} :
    iprop(St m K c [2, 10, 3, 11, 4, 12, 5, 13, 6, 14, 7, 16] [9, 1, 8, 0, 15] [9, 2, 10, 3, 11, 4, 12, 5, 13, 6, 14, 7, 16] [1, 8, 0, 15] [2, 1, 0] [1, 0] ∗ rPt m 2 half₁ c) ⊢ iprop(((St m K c [3, 11, 4, 12, 5, 13, 6, 14, 7, 16] [10, 2, 9, 1, 8, 0, 15] [2, 10, 3, 11, 4, 12, 5, 13, 6, 14, 7, 16] [9, 1, 8, 0, 15] [2, 1, 0] [2, 1, 0]) -∗ Q (acc m c 3)) -∗ WP c (k0_part8 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 c v54 (qall m c) (k0_pay9 (F := F)) (acc m c 2)) Q) := by
  rw [k0_part8_eq_skeleton]; unfold k0_part8_skel
  simp only [Prog.lift, Prog.bind_op, Prog.bind_ret, Prog.pure_eq_ret]
  iintro ⟨H, Hr⟩ Hk
  iapply (st_send_r m K c 2 2 3 (dev9_at c) rfl rfl rfl rfl rfl rfl) $$ [H Hr]
  · isplitl [H] <;> iassumption
  iintro H
  iapply (st_load_rk m K c 2) $$ H
  iintro H
  iapply (st_load_rv m K c 2) $$ H
  iintro H
  iapply (st_recv_l m K c 9 2 rfl (src := lSl 1) (dst := lSl 2) rfl (by decide)) $$ H
  iintro ⟨H, Hl⟩
  iapply (st_send_l m K c 10 2 3 (dev10_at c) rfl rfl rfl rfl rfl rfl) $$ [H Hl]
  · isplitl [H] <;> iassumption
  iintro H
  unfold WP; rw [wp_ret]; rw [fold3]; imodintro
  iapply Hk
  iexact H

set_option maxRecDepth 65536 in
/-- Part 9: the fourth hop to the right, and a fold. -/
theorem part9_ok (v42 : BitVec 32) {Q : FVec F S1024x256 .f32 → sProp 𝕄} :
    iprop(St m K c [3, 11, 4, 12, 5, 13, 6, 14, 7, 16] [10, 2, 9, 1, 8, 0, 15] [2, 10, 3, 11, 4, 12, 5, 13, 6, 14, 7, 16] [9, 1, 8, 0, 15] [2, 1, 0] [2, 1, 0]) ⊢ iprop(((St m K c [11, 4, 12, 5, 13, 6, 14, 7, 16] [3, 10, 2, 9, 1, 8, 0, 15] [10, 3, 11, 4, 12, 5, 13, 6, 14, 7, 16] [2, 9, 1, 8, 0, 15] [3, 2, 1, 0] [2, 1, 0]) -∗ Q (acc m c 4)) -∗ WP c (k0_part9 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 c v42 (qall m c) (k0_pay9 (F := F)) (acc m c 3)) Q) := by
  rw [k0_part9_eq_skeleton]; unfold k0_part9_skel
  simp only [Prog.lift, Prog.bind_op, Prog.bind_ret, Prog.pure_eq_ret]
  iintro H Hk
  iapply (st_load_lk m K c 2) $$ H
  iintro H
  iapply (st_load_lv m K c 2) $$ H
  iintro H
  iapply (st_recv_r m K c 2 3 rfl (src := rSl 2) (dst := rSl 3) rfl (by decide)) $$ H
  iintro ⟨H, Hr⟩
  iapply (st_send_r m K c 3 3 4 (dev11_at c) rfl rfl rfl rfl rfl rfl) $$ [H Hr]
  · isplitl [H] <;> iassumption
  iintro H
  unfold WP; rw [wp_ret]; rw [fold4]; imodintro
  iapply Hk
  iexact H

set_option maxRecDepth 65536 in
/-- Part 10: the fourth hop to the left, and a fold. -/
theorem part10_ok (v54 : BitVec 32) {Q : (Σ' (v280 : FVec F S1024x256 .f32), Vec F S1x512x128 .bf16) → sProp 𝕄} :
    iprop(St m K c [11, 4, 12, 5, 13, 6, 14, 7, 16] [3, 10, 2, 9, 1, 8, 0, 15] [10, 3, 11, 4, 12, 5, 13, 6, 14, 7, 16] [2, 9, 1, 8, 0, 15] [3, 2, 1, 0] [2, 1, 0]) ⊢ iprop(((St m K c [4, 12, 5, 13, 6, 14, 7, 16] [11, 3, 10, 2, 9, 1, 8, 0, 15] [3, 11, 4, 12, 5, 13, 6, 14, 7, 16] [10, 2, 9, 1, 8, 0, 15] [3, 2, 1, 0] [3, 2, 1, 0]) -∗ Q ⟨(acc m c 5), (kk m (rgt^[(3 : Fin 8).val] c))⟩) -∗ WP c (k0_part10 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 c v54 (qall m c) (k0_pay9 (F := F)) (acc m c 4)) Q) := by
  rw [k0_part10_eq_skeleton]; unfold k0_part10_skel
  simp only [Prog.lift, Prog.bind_op, Prog.bind_ret, Prog.pure_eq_ret]
  iintro H Hk
  iapply (st_load_rk m K c 3) $$ H
  iintro H
  iapply (st_load_rv m K c 3) $$ H
  iintro H
  iapply (st_recv_l m K c 10 3 rfl (src := lSl 2) (dst := lSl 3) rfl (by decide)) $$ H
  iintro ⟨H, Hl⟩
  iapply (st_send_l m K c 11 3 4 (dev12_at c) rfl rfl rfl rfl rfl rfl) $$ [H Hl]
  · isplitl [H] <;> iassumption
  iintro H
  iapply (st_load_lk m K c 3) $$ H
  iintro H
  unfold WP; rw [wp_ret]; rw [fold5]; imodintro
  iapply Hk
  iexact H

set_option maxRecDepth 65536 in
/-- Part 11: the fifth hop to the right, and a fold. -/
theorem part11_ok (v42 : BitVec 32) {Q : (Σ' (v308 : FVec F S1024x256 .f32), FVec F S512x128 .bf16) → sProp 𝕄} :
    iprop(St m K c [4, 12, 5, 13, 6, 14, 7, 16] [11, 3, 10, 2, 9, 1, 8, 0, 15] [3, 11, 4, 12, 5, 13, 6, 14, 7, 16] [10, 2, 9, 1, 8, 0, 15] [3, 2, 1, 0] [3, 2, 1, 0]) ⊢ iprop(((St m K c [12, 5, 13, 6, 14, 7, 16] [4, 11, 3, 10, 2, 9, 1, 8, 0, 15] [11, 4, 12, 5, 13, 6, 14, 7, 16] [3, 10, 2, 9, 1, 8, 0, 15] [4, 3, 2, 1, 0] [3, 2, 1, 0]) -∗ Q ⟨(acc m c 6), k0_pay17 (kk m (lft^[(4 : Fin 9).val] c))⟩) -∗ WP c (k0_part11 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 c v42 (qall m c) (k0_pay9 (F := F)) (acc m c 5) (kk m (rgt^[(3 : Fin 8).val] c))) Q) := by
  rw [k0_part11_eq_skeleton]; unfold k0_part11_skel
  simp only [Prog.lift, Prog.bind_op, Prog.bind_ret, Prog.pure_eq_ret]
  iintro H Hk
  iapply (st_load_lv m K c 3) $$ H
  iintro H
  iapply (st_recv_r m K c 3 4 rfl (src := rSl 3) (dst := rSl 4) rfl (by decide)) $$ H
  iintro ⟨H, Hr⟩
  iapply (st_send_r m K c 4 4 5 (dev13_at c) rfl rfl rfl rfl rfl rfl) $$ [H Hr]
  · isplitl [H] <;> iassumption
  iintro H
  iapply (st_load_rk m K c 4) $$ H
  iintro H
  unfold WP; rw [wp_ret]; rw [fold6]; imodintro
  iapply Hk
  iexact H

set_option maxRecDepth 65536 in
/-- Part 12: the fifth hop to the left, and a fold. -/
theorem part12_ok (v54 : BitVec 32) {Q : (Σ' (v336 : FVec F S1024x256 .f32), FVec F S512x128 .bf16) → sProp 𝕄} :
    iprop(St m K c [12, 5, 13, 6, 14, 7, 16] [4, 11, 3, 10, 2, 9, 1, 8, 0, 15] [11, 4, 12, 5, 13, 6, 14, 7, 16] [3, 10, 2, 9, 1, 8, 0, 15] [4, 3, 2, 1, 0] [3, 2, 1, 0]) ⊢ iprop(((St m K c [5, 13, 6, 14, 7, 16] [12, 4, 11, 3, 10, 2, 9, 1, 8, 0, 15] [4, 12, 5, 13, 6, 14, 7, 16] [11, 3, 10, 2, 9, 1, 8, 0, 15] [4, 3, 2, 1, 0] [4, 3, 2, 1, 0]) -∗ Q ⟨(acc m c 7), k0_pay19 (kk m (rgt^[(4 : Fin 8).val] c))⟩) -∗ WP c (k0_part12 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 c v54 (qall m c) (k0_pay9 (F := F)) (acc m c 6) (k0_pay17 (kk m (lft^[(4 : Fin 9).val] c)))) Q) := by
  rw [k0_part12_eq_skeleton]; unfold k0_part12_skel
  simp only [Prog.lift, Prog.bind_op, Prog.bind_ret, Prog.pure_eq_ret]
  iintro H Hk
  iapply (st_load_rv m K c 4) $$ H
  iintro H
  iapply (st_recv_l m K c 11 4 rfl (src := lSl 3) (dst := lSl 4) rfl (by decide)) $$ H
  iintro ⟨H, Hl⟩
  iapply (st_send_l m K c 12 4 5 (dev14_at c) rfl rfl rfl rfl rfl rfl) $$ [H Hl]
  · isplitl [H] <;> iassumption
  iintro H
  iapply (st_load_lk m K c 4) $$ H
  iintro H
  unfold WP; rw [wp_ret]; rw [fold7]; imodintro
  iapply Hk
  iexact H

set_option maxRecDepth 65536 in
/-- Part 13: the sixth hop to the right, and a fold. -/
theorem part13_ok (v42 : BitVec 32) {Q : (Σ' (v364 : FVec F S1024x256 .f32) (v384 : FVec F S512x128 .bf16), FVec F S512x128 .bf16) → sProp 𝕄} :
    iprop(St m K c [5, 13, 6, 14, 7, 16] [12, 4, 11, 3, 10, 2, 9, 1, 8, 0, 15] [4, 12, 5, 13, 6, 14, 7, 16] [11, 3, 10, 2, 9, 1, 8, 0, 15] [4, 3, 2, 1, 0] [4, 3, 2, 1, 0]) ⊢ iprop(((St m K c [13, 6, 14, 7, 16] [5, 12, 4, 11, 3, 10, 2, 9, 1, 8, 0, 15] [12, 5, 13, 6, 14, 7, 16] [4, 11, 3, 10, 2, 9, 1, 8, 0, 15] [5, 4, 3, 2, 1, 0] [4, 3, 2, 1, 0]) -∗ Q ⟨(acc m c 8), k0_pay21 (kk m (lft^[(5 : Fin 9).val] c)), k0_pay22 (vv m (lft^[(5 : Fin 9).val] c))⟩) -∗ WP c (k0_part13 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 c v42 (qall m c) (k0_pay9 (F := F)) (acc m c 7) (k0_pay19 (kk m (rgt^[(4 : Fin 8).val] c)))) Q) := by
  rw [k0_part13_eq_skeleton]; unfold k0_part13_skel
  simp only [Prog.lift, Prog.bind_op, Prog.bind_ret, Prog.pure_eq_ret]
  iintro H Hk
  iapply (st_load_lv m K c 4) $$ H
  iintro H
  iapply (st_recv_r m K c 4 5 rfl (src := rSl 4) (dst := rSl 5) rfl (by decide)) $$ H
  iintro ⟨H, Hr⟩
  iapply (st_send_r m K c 5 5 6 (dev15_at c) rfl rfl rfl rfl rfl rfl) $$ [H Hr]
  · isplitl [H] <;> iassumption
  iintro H
  iapply (st_load_rk m K c 5) $$ H
  iintro H
  iapply (st_load_rv m K c 5) $$ H
  iintro H
  unfold WP; rw [wp_ret]; rw [fold8]; imodintro
  iapply Hk
  iexact H

set_option maxRecDepth 65536 in
/-- Part 14: the sixth hop to the left, and a fold. -/
theorem part14_ok (v54 : BitVec 32) {Q : (Σ' (v392 : FVec F S1024x256 .f32) (v412 : FVec F S512x128 .bf16) (v415 : FVec F S512x256 .bf16), FVec F S1024x512 .f32) → sProp 𝕄} :
    iprop(St m K c [13, 6, 14, 7, 16] [5, 12, 4, 11, 3, 10, 2, 9, 1, 8, 0, 15] [12, 5, 13, 6, 14, 7, 16] [4, 11, 3, 10, 2, 9, 1, 8, 0, 15] [5, 4, 3, 2, 1, 0] [4, 3, 2, 1, 0]) ⊢ iprop(((St m K c [6, 14, 7, 16] [13, 5, 12, 4, 11, 3, 10, 2, 9, 1, 8, 0, 15] [5, 13, 6, 14, 7, 16] [12, 4, 11, 3, 10, 2, 9, 1, 8, 0, 15] [5, 4, 3, 2, 1, 0] [5, 4, 3, 2, 1, 0]) -∗ Q ⟨(acc m c 9), k0_pay24 (kk m (rgt^[(5 : Fin 8).val] c)), k0_pay25 (k0_pay9 (F := F)) (vv m (rgt^[(5 : Fin 8).val] c)), (constant S1024x512 .f32 0x00000000#32)⟩) -∗ WP c (k0_part14 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 c v54 (qall m c) (k0_pay9 (F := F)) (acc m c 8) (k0_pay21 (kk m (lft^[(5 : Fin 9).val] c))) (k0_pay22 (vv m (lft^[(5 : Fin 9).val] c)))) Q) := by
  rw [k0_part14_eq_skeleton]; unfold k0_part14_skel
  simp only [Prog.lift, Prog.bind_op, Prog.bind_ret, Prog.pure_eq_ret]
  iintro H Hk
  iapply (st_recv_l m K c 12 5 rfl (src := lSl 4) (dst := lSl 5) rfl (by decide)) $$ H
  iintro ⟨H, Hl⟩
  iapply (st_send_l m K c 13 5 6 (dev16_at c) rfl rfl rfl rfl rfl rfl) $$ [H Hl]
  · isplitl [H] <;> iassumption
  iintro H
  iapply (st_load_lk m K c 5) $$ H
  iintro H
  iapply (st_load_lv m K c 5) $$ H
  iintro H
  unfold WP; rw [wp_ret]; rw [fold9]; imodintro
  iapply Hk
  iexact H

set_option maxRecDepth 65536 in
/-- Part 15: the seventh hop to the right, and a fold. -/
theorem part15_ok (v42 : BitVec 32) {Q : (Σ' (v420 : FVec F S1024x256 .f32) (v443 : FVec F S512x256 .bf16), FVec F S1024x512 .f32) → sProp 𝕄} :
    iprop(St m K c [6, 14, 7, 16] [13, 5, 12, 4, 11, 3, 10, 2, 9, 1, 8, 0, 15] [5, 13, 6, 14, 7, 16] [12, 4, 11, 3, 10, 2, 9, 1, 8, 0, 15] [5, 4, 3, 2, 1, 0] [5, 4, 3, 2, 1, 0]) ⊢ iprop(((St m K c [14, 7, 16] [6, 13, 5, 12, 4, 11, 3, 10, 2, 9, 1, 8, 0, 15] [13, 6, 14, 7, 16] [5, 12, 4, 11, 3, 10, 2, 9, 1, 8, 0, 15] [6, 5, 4, 3, 2, 1, 0] [5, 4, 3, 2, 1, 0]) -∗ Q ⟨(acc m c 10), k0_pay27 (k0_pay9 (F := F)) (vv m (lft^[(6 : Fin 9).val] c)), k0_pay28 (qall m c) (kk m (lft^[(6 : Fin 9).val] c))⟩) -∗ WP c (k0_part15 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 c v42 (qall m c) (k0_pay9 (F := F)) (acc m c 9) (k0_pay24 (kk m (rgt^[(5 : Fin 8).val] c))) (k0_pay25 (k0_pay9 (F := F)) (vv m (rgt^[(5 : Fin 8).val] c))) (constant S1024x512 .f32 0x00000000#32)) Q) := by
  rw [k0_part15_eq_skeleton]; unfold k0_part15_skel
  simp only [Prog.lift, Prog.bind_op, Prog.bind_ret, Prog.pure_eq_ret]
  iintro H Hk
  iapply (st_recv_r m K c 5 6 rfl (src := rSl 5) (dst := rSl 6) rfl (by decide)) $$ H
  iintro ⟨H, Hr⟩
  iapply (st_send_r m K c 6 6 7 (dev17_at c) rfl rfl rfl rfl rfl rfl) $$ [H Hr]
  · isplitl [H] <;> iassumption
  iintro H
  iapply (st_load_rk m K c 6) $$ H
  iintro H
  iapply (st_load_rv m K c 6) $$ H
  iintro H
  unfold WP; rw [wp_ret]; rw [fold10]; imodintro
  iapply Hk
  iexact H

set_option maxRecDepth 65536 in
/-- Part 16: the seventh hop to the left, and a fold. -/
theorem part16_ok (v54 : BitVec 32) {Q : (Σ' (v448 : FVec F S1024x256 .f32) (v471 : FVec F S512x256 .bf16) (v474 : FVec F S1024x512 .bf16), FVec F S1024x256 .f32) → sProp 𝕄} :
    iprop(St m K c [14, 7, 16] [6, 13, 5, 12, 4, 11, 3, 10, 2, 9, 1, 8, 0, 15] [13, 6, 14, 7, 16] [5, 12, 4, 11, 3, 10, 2, 9, 1, 8, 0, 15] [6, 5, 4, 3, 2, 1, 0] [5, 4, 3, 2, 1, 0]) ⊢ iprop(((St m K c [7, 16] [14, 6, 13, 5, 12, 4, 11, 3, 10, 2, 9, 1, 8, 0, 15] [6, 14, 7, 16] [13, 5, 12, 4, 11, 3, 10, 2, 9, 1, 8, 0, 15] [6, 5, 4, 3, 2, 1, 0] [6, 5, 4, 3, 2, 1, 0]) -∗ Q ⟨(acc m c 11), k0_pay30 (k0_pay9 (F := F)) (vv m (rgt^[(6 : Fin 8).val] c)), k0_pay31 (qall m c) (kk m (rgt^[(6 : Fin 8).val] c)), (constant S1024x256 .f32 0x00000000#32)⟩) -∗ WP c (k0_part16 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 c v54 (qall m c) (k0_pay9 (F := F)) (acc m c 10) (k0_pay27 (k0_pay9 (F := F)) (vv m (lft^[(6 : Fin 9).val] c))) (k0_pay28 (qall m c) (kk m (lft^[(6 : Fin 9).val] c)))) Q) := by
  rw [k0_part16_eq_skeleton]; unfold k0_part16_skel
  simp only [Prog.lift, Prog.bind_op, Prog.bind_ret, Prog.pure_eq_ret]
  iintro H Hk
  iapply (st_recv_l m K c 13 6 rfl (src := lSl 5) (dst := lSl 6) rfl (by decide)) $$ H
  iintro ⟨H, Hl⟩
  iapply (st_send_l m K c 14 6 7 (dev18_at c) rfl rfl rfl rfl rfl rfl) $$ [H Hl]
  · isplitl [H] <;> iassumption
  iintro H
  iapply (st_load_lk m K c 6) $$ H
  iintro H
  iapply (st_load_lv m K c 6) $$ H
  iintro H
  unfold WP; rw [wp_ret]; rw [fold11]; imodintro
  iapply Hk
  iexact H

set_option maxRecDepth 65536 in
/-- Part 17: the eighth hop to the right, and two folds. -/
theorem part17_ok (v42 : BitVec 32) {Q : FVec F S1024x256 .f32 → sProp 𝕄} :
    iprop(St m K c [7, 16] [14, 6, 13, 5, 12, 4, 11, 3, 10, 2, 9, 1, 8, 0, 15] [6, 14, 7, 16] [13, 5, 12, 4, 11, 3, 10, 2, 9, 1, 8, 0, 15] [6, 5, 4, 3, 2, 1, 0] [6, 5, 4, 3, 2, 1, 0]) ⊢ iprop(((St m K c [16] [7, 14, 6, 13, 5, 12, 4, 11, 3, 10, 2, 9, 1, 8, 0, 15] [14, 7, 16] [6, 13, 5, 12, 4, 11, 3, 10, 2, 9, 1, 8, 0, 15] [7, 6, 5, 4, 3, 2, 1, 0] [6, 5, 4, 3, 2, 1, 0]) -∗ Q (acc m c 13)) -∗ WP c (k0_part17 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 c v42 (qall m c) (k0_pay9 (F := F)) (acc m c 11) (k0_pay30 (k0_pay9 (F := F)) (vv m (rgt^[(6 : Fin 8).val] c))) (k0_pay31 (qall m c) (kk m (rgt^[(6 : Fin 8).val] c))) (constant S1024x256 .f32 0x00000000#32)) Q) := by
  rw [k0_part17_eq_skeleton]; unfold k0_part17_skel
  simp only [Prog.lift, Prog.bind_op, Prog.bind_ret, Prog.pure_eq_ret]
  iintro H Hk
  iapply (st_recv_r m K c 6 7 rfl (src := rSl 6) (dst := rSl 7) rfl (by decide)) $$ H
  iintro ⟨H, Hr⟩
  iapply (st_send_r m K c 7 7 8 (dev19_at c) rfl rfl rfl rfl rfl rfl) $$ [H Hr]
  · isplitl [H] <;> iassumption
  iintro H
  iapply (st_load_rk m K c 7) $$ H
  iintro H
  iapply (st_load_rv m K c 7) $$ H
  iintro H
  unfold WP; rw [wp_ret]; rw [fold13]; imodintro
  iapply Hk
  iexact H

set_option maxRecDepth 65536 in
/-- Part 18: the last landings, and a fold. -/
theorem part18_ok (v42 : BitVec 32) (v54 : BitVec 32) {Q : (Σ' (v522 : FVec F S1024x256 .f32), Vec F S1x512x128 .bf16) → sProp 𝕄} :
    iprop(St m K c [16] [7, 14, 6, 13, 5, 12, 4, 11, 3, 10, 2, 9, 1, 8, 0, 15] [14, 7, 16] [6, 13, 5, 12, 4, 11, 3, 10, 2, 9, 1, 8, 0, 15] [7, 6, 5, 4, 3, 2, 1, 0] [6, 5, 4, 3, 2, 1, 0]) ⊢ iprop(((St m K c [16] [7, 14, 6, 13, 5, 12, 4, 11, 3, 10, 2, 9, 1, 8, 0, 15] [16] [7, 14, 6, 13, 5, 12, 4, 11, 3, 10, 2, 9, 1, 8, 0, 15] [8, 7, 6, 5, 4, 3, 2, 1, 0] [7, 6, 5, 4, 3, 2, 1, 0] ∗ rPt m 8 half₁ c ∗ lPt m 7 half₁ c) -∗ Q ⟨(acc m c 14), (kk m (lft^[(8 : Fin 9).val] c))⟩) -∗ WP c (k0_part18 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 v42 v54 (qall m c) (k0_pay9 (F := F)) (acc m c 13)) Q) := by
  rw [k0_part18_eq_skeleton]; unfold k0_part18_skel
  simp only [Prog.lift, Prog.bind_op, Prog.bind_ret, Prog.pure_eq_ret]
  iintro H Hk
  iapply (st_recv_l m K c 14 7 rfl (src := lSl 6) (dst := lSl 7) rfl (by decide)) $$ H
  iintro ⟨H, Hl⟩
  iapply (st_load_lk m K c 7) $$ H
  iintro H
  iapply (st_load_lv m K c 7) $$ H
  iintro H
  iapply (st_recv_r m K c 7 8 rfl (src := rSl 7) (dst := rSl 8) rfl (by decide)) $$ H
  iintro ⟨H, Hr⟩
  iapply (st_load_rk m K c 8) $$ H
  iintro H
  unfold WP; rw [wp_ret]; rw [fold14]; imodintro
  iapply Hk
  isplitl [H]; · iexact H
  isplitl [Hr]; · iexact Hr
  iexact Hl

end Cert.RunIdeal
-- ==== Proof.Ideal.PartsEnds.lean ====
/-
The first parts of the kernel's body: the barrier, the slots filled, the first transfers; and its last
parts: the exchange of the partner's rows, and the waits for everything sent.
-/
module

public import proofs.«01_k».proof.Proof.Ideal.Parts

@[expose] public section

noncomputable section

namespace Cert.RunIdeal

open Cert.KernelIdeal Cert.KernelIdeal.Gen

open Idealize.ShloMosaic
open Idealize.ShloMosaic.TcCoe
open Idealize.ShloMosaic.ValueIdx (ix3 eq_ix3)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ)
variable (K : Dev nD × CI → ℕ)
variable (c : Dev nD)

/-- Part 1: the device reads its number; what else it computes is used by no operation. -/
theorem part1_ok {Q : (Σ' (_ : Dev nD) (_ : BitVec 32) (_ : BitVec 32) (_ : BitVec 32) (_ : BitVec 32) (_ : BitVec 32) (_ : BitVec 1), BitVec 1) → sProp 𝕄} :
    iprop(∀ v2, ∀ v20, ∀ v30, ∀ v33, ∀ v34, ∀ v35, ∀ v36, Q ⟨c, v2, v20, v30, v33, v34, v35, v36⟩)
      ⊢ WP c (k0_part1 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11) Q := by
  rw [k0_part1_eq_skeleton]; unfold k0_part1_skel
  simp only [Prog.lift, Prog.bind_op, Prog.bind_ret, Prog.pure_eq_ret, wp_deviceId]
  iintro Hk
  rw [wp_ret]; imodintro
  iapply Hk

theorem peer_lft : ∀ c : Dev nD, ∀ x ∈ lanes 0, peer x (lft c) = c := by decide
theorem peer_rgt : ∀ c : Dev nD, ∀ x ∈ lanes 1, peer x (rgt c) = c := by decide
theorem peer_far : ∀ c : Dev nD, ∀ x ∈ lanes 2, peer x (far c) = c := by decide

/-- Part 2: the neighbours learn that this device's slots are open. -/
theorem part2_ok (v2 v20 v30 v33 v34 : BitVec 32) (v35 v36 : BitVec 1) {Q : (Σ' (_ : BitVec 32) (_ : BitVec 32) (_ : BitVec 32) (_ : Sems sig S_), BitVec 32) → sProp 𝕄} :
    iprop(records m K ∗ owesE c (O₀ c) ∗ dutyTok ER (barCell (lft c)) 0 0 ∗ ownAny c (lanes 0) ∗ dutyTok ER (barCell (rgt c)) 0 1 ∗ ownAny c (lanes 1))
      ⊢ iprop((∀ a, ∀ b, ∀ d, ∀ e, owesE c (O₂ c) -∗ Q ⟨a, b, d, SemArray.scalar (sig.barrier 0 rfl), e⟩)
        -∗ WP c (k0_part2 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 c v2 v20 v30 v33 v34 v35 v36) Q) := by
  rw [k0_part2_eq_skeleton]; unfold k0_part2_skel
  simp only [semSignalWord, semWaitWord, Prog.lift, Prog.bind_op, Prog.bind_ret, Prog.pure_eq_ret]
  iintro ⟨#HR, HO, Ht, Hd, Ht', Hd'⟩ Hk
  iapply (sig_step m K c (lft c) _ 0 (dev1_at c) (peer_lft c) (O₁ c) rfl) $$ [HO Ht Hd]
  · isplitr; · iexact HR
    isplitl [HO]; · iexact HO
    isplitl [Ht]; · iexact Ht
    iexact Hd
  iintro HO
  iapply (sig_step m K c (rgt c) _ 1 (dev2_at c) (peer_rgt c) (O₂ c) rfl) $$ [HO Ht' Hd']
  · isplitr; · iexact HR
    isplitl [HO]; · iexact HO
    isplitl [Ht']; · iexact Ht'
    iexact Hd'
  iintro HO
  unfold WP; rw [wp_ret]; imodintro
  iapply Hk; iexact HO

/-- Part 3: the partner too; the wait for all three; the device's own keys and values into slot 0 of both
    rings, its scaled queries into their buffer. -/
theorem part3_ok (v65 v71 : BitVec 32) {Q : (Σ' (_ : BitVec 32), BitVec 32) → sProp 𝕄} :
    iprop(records m K ∗ levAts L lv ∗ owesE c (O₂ c) ∗ dutyTok ER (barCell (far c)) 0 2 ∗ ownAny c (lanes 2)
        ∗ cred (tallyAt (barCell c) () 3) ∗ atPos ER (barCell c) 0 ∅ 0 ∗ tokS c order ∗ todoR c order
        ∗ rAny (F := F) 0 c ∗ lAny (F := F) 0 c ∗ ((c : Thread nD τ).loc cc0_stg0_0 ↦{fullShare} qst m c) ∗ ((c : Thread nD τ).loc cc0_stg1_0 ↦{fullShare} kst m c) ∗ ((c : Thread nD τ).loc cc0_stg2_0 ↦{fullShare} vst m c) ∗ (∃ f : Buf (Elt F) ((c : Thread nD τ).loc cc0_scratch0), ((c : Thread nD τ).loc cc0_scratch0 ↦{fullShare} f)))
      ⊢ iprop((∀ a, ∀ b, (St m K c order [] order [] [0] [0] ∗ rPt m 0 half₁ c ∗ lPt m 0 half₁ c ∗ ((c : Thread nD τ).loc cc0_stg0_0 ↦{fullShare} qst m c) ∗ ((c : Thread nD τ).loc cc0_stg1_0 ↦{fullShare} kst m c) ∗ ((c : Thread nD τ).loc cc0_stg2_0 ↦{fullShare} vst m c) ∗ qmPt m half₁ c ∗ qmPt m half₂ c
          ∗ semVal (barCell c) 0) -∗ Q ⟨a, b⟩)
        -∗ WP c (k0_part3 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 c v65 (SemArray.scalar (sig.barrier 0 rfl)) v71) Q) := by
  rw [k0_part3_eq_skeleton]; unfold k0_part3_skel
  simp only [semSignalWord, semWaitWord, Prog.lift, Prog.bind_op, Prog.bind_ret, Prog.pure_eq_ret]
  iintro ⟨#HR, #Hlev, HO, Ht, Hd, Hc, Hat, HT, HD, Hr, Hl, Hq, Hkk, Hv, ⟨%g, Hm⟩⟩ Hk
  iapply (sig_step m K c (far c) _ 2 (dev3_at c) (peer_far c) (owedL c order) rfl) $$ [HO Ht Hd]
  · isplitr; · iexact HR
    isplitl [HO]; · iexact HO
    isplitl [Ht]; · iexact Ht
    iexact Hd
  iintro HO
  iapply (bar_step m K c rfl) $$ [HO Hc Hat]
  · isplitr; · iexact HR
    isplitr; · iexact Hlev
    isplitl [HO]; · iexact HO
    isplitl [Hc]; · iexact Hc
    iexact Hat
  iintro ⟨HO, Hs, Hb⟩
  iapply (ld_k_ c fullShare (kst m c)) $$ Hkk
  iintro Hkk
  iapply (ld_v_ c fullShare (vst m c)) $$ Hv
  iintro Hv
  iapply (fill_step_r m c) $$ Hr
  iintro ⟨Hr, Hr'⟩
  iapply (fill_step_l m c) $$ Hl
  iintro ⟨Hl, Hl'⟩
  iapply (ld_q_ c fullShare (qst m c)) $$ Hq
  iintro Hq
  iapply (ld_qm c fullShare g) $$ Hm
  iintro Hm
  iapply (wr_qm c (qsc m c) g) $$ Hm
  iintro Hm
  ihave Hm := halves.1 $$ Hm
  icases Hm with ⟨Hm, Hm'⟩
  unfold WP; rw [wp_ret]; imodintro
  iapply Hk
  isplitl [HO HT Hs HD Hr' Hl']
  · unfold St
    isplitr; · iexact HR
    isplitr; · iexact Hlev
    isplitl [HO]; · iexact HO
    isplitl [HT]; · iexact HT
    isplitl [Hs]; · iexact Hs
    isplitr; · iapply (show (iprop(emp) : sProp 𝕄) ⊢ doneS c [] from BI.Entails.refl _); iempintro
    isplitl [HD]; · iexact HD
    isplitr; · iapply (show (iprop(emp) : sProp 𝕄) ⊢ doneR c [] from BI.Entails.refl _); iempintro
    isplitl [Hr']
    · unfold keptR; rw [list_cons]; isplitl [Hr']; · iexact Hr'
      iapply (show (iprop(emp) : sProp 𝕄) ⊢ bigSepL [] _ from BI.Entails.refl _); iempintro
    unfold keptL; rw [list_cons]; isplitl [Hl']; · iexact Hl'
    iapply (show (iprop(emp) : sProp 𝕄) ⊢ bigSepL [] _ from BI.Entails.refl _); iempintro
  isplitl [Hr]; · iexact Hr
  isplitl [Hl]; · iexact Hl
  isplitl [Hq]; · iexact Hq
  isplitl [Hkk]; · iexact Hkk
  isplitl [Hv]; · iexact Hv
  isplitl [Hm]; · unfold qmPt; iexact Hm
  isplitl [Hm']; · unfold qmPt; iexact Hm'
  iexact Hb

set_option maxRecDepth 65536 in
/-- Part 4: the queries go to the partner, slot 0 to either neighbour; the partner's queries land. -/
theorem part4_ok (v42 v54 v65 v96 c0 : BitVec 32) {Q : Vec F S512x128 .bf16 → sProp 𝕄} :
    iprop(St m K c order [] order [] [0] [0] ∗ rPt m 0 half₁ c ∗ lPt m 0 half₁ c ∗ qmPt m half₁ c ∗ qmPt m half₂ c)
      ⊢ iprop(((St m K c [1, 9, 2, 10, 3, 11, 4, 12, 5, 13, 6, 14, 7, 16] [8, 0, 15] [0, 8, 1, 9, 2, 10, 3, 11, 4, 12, 5, 13, 6, 14, 7, 16] [15] [0] [0] ∗ qmPt m half₂ c ∗ ((c : Thread nD τ).loc cc0_scratch1 ↦{fullShare} qsc m (far c))) -∗ Q (qsc m c))
        -∗ WP c (k0_part4 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 c v42 v54 v65 v96 c0) Q) := by
  rw [k0_part4_eq_skeleton]; unfold k0_part4_skel
  simp only [semSignalWord, semWaitWord, Prog.lift, Prog.bind_op, Prog.bind_ret, Prog.pure_eq_ret]
  iintro ⟨H, Hr, Hl, Hm, Hm'⟩ Hk
  iapply (st_send_q m K c (dev4_at c)) $$ [H Hm]
  · isplitl [H]; · unfold order; iexact H
    iexact Hm
  iintro H
  iapply (st_send_r m K c 0 0 1 (dev5_at c) rfl rfl rfl rfl rfl rfl) $$ [H Hr]
  · isplitl [H] <;> iassumption
  iintro H
  iapply (st_send_l m K c 8 0 1 (dev6_at c) rfl rfl rfl rfl rfl rfl) $$ [H Hl]
  · isplitl [H] <;> iassumption
  iintro H
  iapply (st_recv m K c 15 (src := qmM) (dst := qoM) rfl (by decide)) $$ H
  iintro ⟨H, Ho⟩
  unfold qmPt
  iapply (ld_qm c half₂ (qsc m c)) $$ Hm'
  iintro Hm'
  unfold WP; rw [wp_ret]; imodintro
  iapply Hk
  isplitl [H]; · iexact H
  isplitl [Hm']; · iexact Hm'
  iapply (show dstPay m 15 c ⊢ ((c : Thread nD τ).loc cc0_scratch1 ↦{fullShare} qsc m (far c)) from BI.Entails.refl _); iexact Ho

theorem fold0 : k0_pay10 (qsc m c) (qsc m (far c)) (kk m (lft^[(0 : Fin 9).val] c)) (vv m (lft^[(0 : Fin 9).val] c)) = acc m c 0 := rfl
theorem qall_eq : k0_pay8 (qsc m c) (qsc m (far c)) = qall m c := rfl

set_option maxRecDepth 65536 in
/-- Part 5: the queries side by side, and the device's own block. -/
theorem part5_ok (v42 : BitVec 32) {Q : (Σ' (_ : FVec F S1024x128 .bf16) (_ : FVec F S512x128 .bf16), FVec F S1024x256 .f32) → sProp 𝕄} :
    iprop(St m K c [1, 9, 2, 10, 3, 11, 4, 12, 5, 13, 6, 14, 7, 16] [8, 0, 15] [0, 8, 1, 9, 2, 10, 3, 11, 4, 12, 5, 13, 6, 14, 7, 16] [15] [0] [0] ∗ ((c : Thread nD τ).loc cc0_scratch1 ↦{fullShare} qsc m (far c)))
      ⊢ iprop(((St m K c [1, 9, 2, 10, 3, 11, 4, 12, 5, 13, 6, 14, 7, 16] [8, 0, 15] [8, 1, 9, 2, 10, 3, 11, 4, 12, 5, 13, 6, 14, 7, 16] [0, 15] [1, 0] [0] ∗ rPt m 1 half₁ c ∗ ((c : Thread nD τ).loc cc0_scratch1 ↦{fullShare} qsc m (far c))) -∗ Q ⟨qall m c, k0_pay9 (F := F), acc m c 0⟩)
        -∗ WP c (k0_part5 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 v42 (qsc m c)) Q) := by
  rw [k0_part5_eq_skeleton]; unfold k0_part5_skel
  simp only [semSignalWord, semWaitWord, Prog.lift, Prog.bind_op, Prog.bind_ret, Prog.pure_eq_ret]
  iintro ⟨H, Ho⟩ Hk
  iapply (ld_qo c fullShare (qsc m (far c))) $$ Ho
  iintro Ho
  iapply (st_load_rk m K c 0) $$ H
  iintro H
  iapply (st_load_rv m K c 0) $$ H
  iintro H
  iapply (st_recv_r m K c 0 1 rfl (src := rSl 0) (dst := rSl 1) rfl (by decide)) $$ H
  iintro ⟨H, Hr⟩
  unfold WP; rw [wp_ret]; rw [fold0, qall_eq]; imodintro
  iapply Hk
  isplitl [H]; · iexact H
  isplitl [Hr]; · iexact Hr
  iexact Ho

/-! ## The exchange, and the last waits -/

theorem part_eq : k0_pay35 (qall m c) (k0_pay9 (F := F)) (acc m c 14) (kk m (lft^[(8 : Fin 9).val] c)) (vv m (lft^[(8 : Fin 9).val] c)) = part m c := rfl
theorem out_eq : k0_pay36 (qall m c) (k0_pay9 (F := F)) (acc m c 14) (kk m (lft^[(8 : Fin 9).val] c)) (vv m (lft^[(8 : Fin 9).val] c)) (part m (far c)) = outAt m c := rfl

set_option maxRecDepth 65536 in
/-- Part 19: the last fold; the partner's rows go to the partner, its rows of ours arrive; the result is stored. -/
theorem part19_ok (v65 : BitVec 32) {Q : PUnit → sProp 𝕄} :
    iprop(St m K c [16] [7, 14, 6, 13, 5, 12, 4, 11, 3, 10, 2, 9, 1, 8, 0, 15] [16] [7, 14, 6, 13, 5, 12, 4, 11, 3, 10, 2, 9, 1, 8, 0, 15] [8, 7, 6, 5, 4, 3, 2, 1, 0] [7, 6, 5, 4, 3, 2, 1, 0] ∗ (∃ f : Buf (Elt F) ((c : Thread nD τ).loc cc0_scratch4), ((c : Thread nD τ).loc cc0_scratch4 ↦{fullShare} f)) ∗ (∃ f : Buf (Elt F) ((c : Thread nD τ).loc cc0_stg3_0), ((c : Thread nD τ).loc cc0_stg3_0 ↦{fullShare} f)))
      ⊢ iprop(((St m K c [] [16, 7, 14, 6, 13, 5, 12, 4, 11, 3, 10, 2, 9, 1, 8, 0, 15] [] [16, 7, 14, 6, 13, 5, 12, 4, 11, 3, 10, 2, 9, 1, 8, 0, 15] [8, 7, 6, 5, 4, 3, 2, 1, 0] [7, 6, 5, 4, 3, 2, 1, 0] ∗ saPt m half₂ c ∗ ((c : Thread nD τ).loc cc0_scratch5 ↦{fullShare} part m (far c)) ∗ ((c : Thread nD τ).loc cc0_stg3_0 ↦{fullShare} outAt m c)) -∗ Q ⟨⟩)
        -∗ WP c (k0_part19 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 c v65 (qall m c) (k0_pay9 (F := F)) (acc m c 14) (kk m (lft^[(8 : Fin 9).val] c))) Q) := by
  rw [k0_part19_eq_skeleton]; unfold k0_part19_skel
  simp only [semSignalWord, semWaitWord, Prog.lift, Prog.bind_op, Prog.bind_ret, Prog.pure_eq_ret]
  iintro ⟨H, ⟨%g, Hs⟩, ⟨%o, Ho⟩⟩ Hk
  iapply (st_load_rv m K c 8) $$ H
  iintro H
  iapply (ld_sa c fullShare g) $$ Hs
  iintro Hs
  iapply (wr_sa c (part m c) g) $$ Hs
  iintro Hs
  ihave Hs := halves.1 $$ Hs
  icases Hs with ⟨Hs, Hs'⟩
  iapply (st_send_c m K c (dev20_at c)) $$ [H Hs]
  · isplitl [H]; · iexact H
    unfold saPt; iexact Hs
  iintro H
  iapply (st_recv m K c 16 (src := saM) (dst := raM) rfl (by decide)) $$ H
  iintro ⟨H, Hp⟩
  ihave Hp := (show dstPay m 16 c ⊢ ((c : Thread nD τ).loc cc0_scratch5 ↦{fullShare} part m (far c)) from BI.Entails.refl _) $$ Hp
  iapply (ld_ra c fullShare (part m (far c))) $$ Hp
  iintro Hp
  iapply (ld_o_ c fullShare o) $$ Ho
  iintro Ho
  iapply (wr_o_ c (outAt m c) o) $$ Ho
  iintro Ho
  unfold WP; rw [wp_ret]; imodintro
  iapply Hk
  isplitl [H]; · iexact H
  isplitl [Hs']; · unfold saPt; iexact Hs'
  isplitl [Hp]; · iexact Hp
  iexact Ho

/-- Everything received; lanes `r` sent and not waited for, lanes `d` waited for. -/
def Fi (c : Dev nD) (r d : List (Fin 17)) : sProp 𝕄 := iprop(records m K ∗ owesE c 0 ∗ doneS c r ∗ doneF m c d)

theorem fi_step (x : Fin 17) {s s' : Shape} {e e' : EltTy} {src : Memref sig .tc .vmem s e} {dst : Memref sig .tc .vmem s' e'}
    {hsrc : src.view.WordExact} {hdst : dst.view.WordExact}
    {α : Type} {Q : α → sProp 𝕄} {k : PUnit → Prog (TpuEff nD τ sig (Elt F) Λ₀ .tc) α}
    (hN : dst.view.dmaCredit = amt x) (r d : List (Fin 17)) :
    Fi m K c (x :: r) d ⊢ iprop((Fi m K c r (x :: d) -∗ WP c (k ⟨⟩) Q) -∗ WP c (.op (.waitDma2 (sN x) src dst hsrc hdst) k) Q) := by
  unfold Fi
  iintro ⟨#HR, HO, Hr, Hd⟩ Hk
  iapply (sent_step m K c x hN r d) $$ [HO Hr Hd]
  · isplitr; · iexact HR
    isplitl [HO]; · iexact HO
    isplitl [Hr]; · iexact Hr
    iexact Hd
  iintro ⟨HO, Hr, Hd⟩
  iapply Hk
  isplitr; · iexact HR
  isplitl [HO]; · iexact HO
  isplitl [Hr]; · iexact Hr
  iexact Hd

set_option maxRecDepth 65536 in
/-- Part 20: lanes 15, 16, 0, 1, 2 have left. -/
theorem part20_ok {Q : PUnit → sProp 𝕄} :
    Fi m K c [15, 16, 0, 1, 2, 3, 4, 5, 6, 7, 8, 9, 10, 11, 12, 13, 14] [] ⊢ iprop((Fi m K c [3, 4, 5, 6, 7, 8, 9, 10, 11, 12, 13, 14] [2, 1, 0, 16, 15] -∗ Q ⟨⟩) -∗ WP c (k0_part20 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11) Q) := by
  rw [k0_part20_eq_skeleton]; unfold k0_part20_skel
  simp only [semSignalWord, semWaitWord, Prog.lift, Prog.bind_op, Prog.bind_ret, Prog.pure_eq_ret]
  iintro H Hk
  iapply (fi_step m K c 15 (src := qoM) (dst := qmM) rfl [16, 0, 1, 2, 3, 4, 5, 6, 7, 8, 9, 10, 11, 12, 13, 14] []) $$ H
  iintro H
  iapply (fi_step m K c 16 (src := raM) (dst := saM) rfl [0, 1, 2, 3, 4, 5, 6, 7, 8, 9, 10, 11, 12, 13, 14] [15]) $$ H
  iintro H
  iapply (fi_step m K c 0 (src := (rSl 1)) (dst := (rSl 0)) rfl [1, 2, 3, 4, 5, 6, 7, 8, 9, 10, 11, 12, 13, 14] [16, 15]) $$ H
  iintro H
  iapply (fi_step m K c 1 (src := (rSl 2)) (dst := (rSl 1)) rfl [2, 3, 4, 5, 6, 7, 8, 9, 10, 11, 12, 13, 14] [0, 16, 15]) $$ H
  iintro H
  iapply (fi_step m K c 2 (src := (rSl 3)) (dst := (rSl 2)) rfl [3, 4, 5, 6, 7, 8, 9, 10, 11, 12, 13, 14] [1, 0, 16, 15]) $$ H
  iintro H
  unfold WP; rw [wp_ret]; imodintro
  iapply Hk; iexact H

set_option maxRecDepth 65536 in
/-- Part 21: lanes 3, 4, 5, 6 have left. -/
theorem part21_ok {Q : PUnit → sProp 𝕄} :
    Fi m K c [3, 4, 5, 6, 7, 8, 9, 10, 11, 12, 13, 14] [2, 1, 0, 16, 15] ⊢ iprop((Fi m K c [7, 8, 9, 10, 11, 12, 13, 14] [6, 5, 4, 3, 2, 1, 0, 16, 15] -∗ Q ⟨⟩) -∗ WP c (k0_part21 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11) Q) := by
  rw [k0_part21_eq_skeleton]; unfold k0_part21_skel
  simp only [semSignalWord, semWaitWord, Prog.lift, Prog.bind_op, Prog.bind_ret, Prog.pure_eq_ret]
  iintro H Hk
  iapply (fi_step m K c 3 (src := (rSl 4)) (dst := (rSl 3)) rfl [4, 5, 6, 7, 8, 9, 10, 11, 12, 13, 14] [2, 1, 0, 16, 15]) $$ H
  iintro H
  iapply (fi_step m K c 4 (src := (rSl 5)) (dst := (rSl 4)) rfl [5, 6, 7, 8, 9, 10, 11, 12, 13, 14] [3, 2, 1, 0, 16, 15]) $$ H
  iintro H
  iapply (fi_step m K c 5 (src := (rSl 6)) (dst := (rSl 5)) rfl [6, 7, 8, 9, 10, 11, 12, 13, 14] [4, 3, 2, 1, 0, 16, 15]) $$ H
  iintro H
  iapply (fi_step m K c 6 (src := (rSl 7)) (dst := (rSl 6)) rfl [7, 8, 9, 10, 11, 12, 13, 14] [5, 4, 3, 2, 1, 0, 16, 15]) $$ H
  iintro H
  unfold WP; rw [wp_ret]; imodintro
  iapply Hk; iexact H

set_option maxRecDepth 65536 in
/-- Part 22: lanes 7, 8, 9 have left. -/
theorem part22_ok {Q : PUnit → sProp 𝕄} :
    Fi m K c [7, 8, 9, 10, 11, 12, 13, 14] [6, 5, 4, 3, 2, 1, 0, 16, 15] ⊢ iprop((Fi m K c [10, 11, 12, 13, 14] [9, 8, 7, 6, 5, 4, 3, 2, 1, 0, 16, 15] -∗ Q ⟨⟩) -∗ WP c (k0_part22 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11) Q) := by
  rw [k0_part22_eq_skeleton]; unfold k0_part22_skel
  simp only [semSignalWord, semWaitWord, Prog.lift, Prog.bind_op, Prog.bind_ret, Prog.pure_eq_ret]
  iintro H Hk
  iapply (fi_step m K c 7 (src := (rSl 8)) (dst := (rSl 7)) rfl [8, 9, 10, 11, 12, 13, 14] [6, 5, 4, 3, 2, 1, 0, 16, 15]) $$ H
  iintro H
  iapply (fi_step m K c 8 (src := (lSl 1)) (dst := (lSl 0)) rfl [9, 10, 11, 12, 13, 14] [7, 6, 5, 4, 3, 2, 1, 0, 16, 15]) $$ H
  iintro H
  iapply (fi_step m K c 9 (src := (lSl 2)) (dst := (lSl 1)) rfl [10, 11, 12, 13, 14] [8, 7, 6, 5, 4, 3, 2, 1, 0, 16, 15]) $$ H
  iintro H
  unfold WP; rw [wp_ret]; imodintro
  iapply Hk; iexact H

set_option maxRecDepth 65536 in
/-- Part 23: lanes 10, 11, 12, 13 have left. -/
theorem part23_ok {Q : PUnit → sProp 𝕄} :
    Fi m K c [10, 11, 12, 13, 14] [9, 8, 7, 6, 5, 4, 3, 2, 1, 0, 16, 15] ⊢ iprop((Fi m K c [14] [13, 12, 11, 10, 9, 8, 7, 6, 5, 4, 3, 2, 1, 0, 16, 15] -∗ Q ⟨⟩) -∗ WP c (k0_part23 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11) Q) := by
  rw [k0_part23_eq_skeleton]; unfold k0_part23_skel
  simp only [semSignalWord, semWaitWord, Prog.lift, Prog.bind_op, Prog.bind_ret, Prog.pure_eq_ret]
  iintro H Hk
  iapply (fi_step m K c 10 (src := (lSl 3)) (dst := (lSl 2)) rfl [11, 12, 13, 14] [9, 8, 7, 6, 5, 4, 3, 2, 1, 0, 16, 15]) $$ H
  iintro H
  iapply (fi_step m K c 11 (src := (lSl 4)) (dst := (lSl 3)) rfl [12, 13, 14] [10, 9, 8, 7, 6, 5, 4, 3, 2, 1, 0, 16, 15]) $$ H
  iintro H
  iapply (fi_step m K c 12 (src := (lSl 5)) (dst := (lSl 4)) rfl [13, 14] [11, 10, 9, 8, 7, 6, 5, 4, 3, 2, 1, 0, 16, 15]) $$ H
  iintro H
  iapply (fi_step m K c 13 (src := (lSl 6)) (dst := (lSl 5)) rfl [14] [12, 11, 10, 9, 8, 7, 6, 5, 4, 3, 2, 1, 0, 16, 15]) $$ H
  iintro H
  unfold WP; rw [wp_ret]; imodintro
  iapply Hk; iexact H

end Cert.RunIdeal
-- ==== Proof.Ideal.Body.lean ====
/-
The kernel's body on one device, from what the launch deals it to what it leaves: its parts one after
the other.
-/
module

public import proofs.«01_k».proof.Proof.Ideal.PartsEnds

@[expose] public section

noncomputable section

namespace Cert.RunIdeal

open Cert.KernelIdeal Cert.KernelIdeal.Gen

open Idealize.ShloMosaic
open Idealize.ShloMosaic.TcCoe
open Idealize.ShloMosaic.ValueIdx (ix3 eq_ix3)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ)

/-- A device's six scratch buffers, holding anything. -/
def scratch (c : Dev nD) : sProp 𝕄 := iprop((∃ f : Buf (Elt F) ((c : Thread nD τ).loc cc0_scratch0), ((c : Thread nD τ).loc cc0_scratch0 ↦{fullShare} f)) ∗ (∃ f : Buf (Elt F) ((c : Thread nD τ).loc cc0_scratch1), ((c : Thread nD τ).loc cc0_scratch1 ↦{fullShare} f)) ∗ (∃ f : Buf (Elt F) ((c : Thread nD τ).loc cc0_scratch2), ((c : Thread nD τ).loc cc0_scratch2 ↦{fullShare} f)) ∗ (∃ f : Buf (Elt F) ((c : Thread nD τ).loc cc0_scratch3), ((c : Thread nD τ).loc cc0_scratch3 ↦{fullShare} f)) ∗ (∃ f : Buf (Elt F) ((c : Thread nD τ).loc cc0_scratch4), ((c : Thread nD τ).loc cc0_scratch4 ↦{fullShare} f)) ∗ (∃ f : Buf (Elt F) ((c : Thread nD τ).loc cc0_scratch5), ((c : Thread nD τ).loc cc0_scratch5 ↦{fullShare} f)))

/-- The order in which the landings were waited for, last first. -/
abbrev rOrd : List (Fin 17) := [16, 7, 14, 6, 13, 5, 12, 4, 11, 3, 10, 2, 9, 1, 8, 0, 15]

/-- What device `c` starts with: its place at its cells, the tokens of the duties it pays, the credit of what
    its waits take, and the counters of the four semaphores nothing uses. -/
def linear (c : Dev nD) : sProp 𝕄 :=
  iprop(dutyTok ER (barCell (lft c)) 0 0 ∗ dutyTok ER (barCell (rgt c)) 0 1 ∗ dutyTok ER (barCell (far c)) 0 2
    ∗ atPos ER (barCell c) 0 ∅ 0 ∗ tokS c order ∗ bigSepL order (fun x => atPos ER (rCell x c) 0 ∅ 0))
abbrev idle : List (DmaSem sig) := [6, 15, 24, 32]
def idles (c : Dev nD) : sProp 𝕄 := bigSepL idle fun n => semVal ((c : Thread nD τ), .dma n) 0
def start (c : Dev nD) : sProp 𝕄 :=
  iprop((∃ K : Dev nD × CI → ℕ, records m K ∗ linear c ∗ idles c) ∗ levAts L lv
    ∗ cred (tallyAt (barCell c) () 3) ∗ bigSepL order (fun x => cred (tallyAt (rCell x c) () (amt x))))
/-- Before the body; -/
def Φ₀ (c : Dev nD) : sProp 𝕄 := iprop(start m c ∗ scratch c)
/-- after it: every counter back at zero. -/
def Φ₁ (c : Dev nD) : sProp 𝕄 :=
  iprop(scratch c ∗ semVal (barCell c) 0 ∗ idles c ∗ (bigSepL wOrd fun x => semVal (sCell x c) 0) ∗ (bigSepL rOrd fun x => semVal (rCell x c) 0))

theorem list_zip {α : Type} (l : List α) (Φ Ψ : α → sProp 𝕄) : iprop(bigSepL l Φ ∗ bigSepL l Ψ) ⊢ bigSepL l (fun x => iprop(Φ x ∗ Ψ x)) := by
  induction l with
  | nil => exact sep_elim_left
  | cons x l ih =>
    rw [list_cons, list_cons, list_cons]
    iintro ⟨⟨Ha, Hb⟩, Hc, Hd⟩
    isplitl [Ha Hc]
    · isplitl [Ha] <;> iassumption
    iapply ih
    isplitl [Hb] <;> iassumption

theorem bind_ok {α β : Type} (c : Dev nD) (p : Prog (TpuEff nD τ sig (Elt F) Λ₀ .tc) α) (k : α → Prog (TpuEff nD τ sig (Elt F) Λ₀ .tc) β) (Q : β → sProp 𝕄) :
    (WP c (p >>= k) Q : sProp 𝕄) = WP c p (fun a => WP c (k a) Q) := wp_bind _ _ _ _ _ _

theorem sent_perm : (rOrd : List (Fin 17)).Perm [15, 16, 0, 1, 2, 3, 4, 5, 6, 7, 8, 9, 10, 11, 12, 13, 14] := by decide

set_option maxRecDepth 65536 in
set_option maxHeartbeats 1600000 in
/-- The body, part by part. -/
theorem sound_body (K : Dev nD × CI → ℕ) (c : Dev nD) {Q : PUnit → sProp 𝕄} :
    iprop(records m K ∗ linear c ∗ idles c ∗ levAts L lv ∗ cred (tallyAt (barCell c) () 3)
        ∗ bigSepL order (fun x => cred (tallyAt (rCell x c) () (amt x))) ∗ scratch c ∗ owesE c (O₀ c)
        ∗ ((c : Thread nD τ).loc cc0_stg0_0 ↦{fullShare} qst m c) ∗ ((c : Thread nD τ).loc cc0_stg1_0 ↦{fullShare} kst m c) ∗ ((c : Thread nD τ).loc cc0_stg2_0 ↦{fullShare} vst m c) ∗ (∃ f : Buf (Elt F) ((c : Thread nD τ).loc cc0_stg3_0), ((c : Thread nD τ).loc cc0_stg3_0 ↦{fullShare} f)))
      ⊢ iprop(((Φ₁ c ∗ owesE c 0 ∗ ((c : Thread nD τ).loc cc0_stg0_0 ↦{fullShare} qst m c) ∗ ((c : Thread nD τ).loc cc0_stg1_0 ↦{fullShare} kst m c) ∗ ((c : Thread nD τ).loc cc0_stg2_0 ↦{fullShare} vst m c) ∗ ((c : Thread nD τ).loc cc0_stg3_0 ↦{fullShare} outAt m c)) -∗ Q ⟨⟩)
        -∗ WP c (cc0_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11) Q) := by
  rw [cc0_body_eq_skeleton]; unfold cc0_body_skel
  unfold linear scratch
  iintro ⟨#HR, ⟨Ht0, Ht1, Ht2, Hat, HT, HrA⟩, Hi, #Hlev, Hcb, Hcr, ⟨S0, S1, S2, S3, S4, S5⟩, HO, Hq, Hk, Hv, Ho⟩ HK
  rw [bind_ok]
  iapply (part1_ok c)
  iintro %v2 %v20 %v30 %v33 %v34 %v35 %v36
  try dsimp only
  ihave S2 := (open_r c) $$ S2
  icases S2 with ⟨Hr0, Hrs⟩
  ihave S3 := (open_l c) $$ S3
  icases S3 with ⟨Hl0, Hls⟩
  ihave Hd := (list_zip order (fun x => (cred (tallyAt (rCell x c) () (amt x)) : sProp 𝕄)) (fun x => atPos ER (rCell x c) 0 ∅ 0)) $$ [Hcr HrA]
  · isplitl [Hcr] <;> iassumption
  rw [bind_ok]
  iapply (part2_ok m K c v2 v20 v30 v33 v34 v35 v36) $$ [HO Ht0 Hrs Ht1 Hls]
  · isplitr; · iexact HR
    isplitl [HO]; · iexact HO
    isplitl [Ht0]; · iexact Ht0
    isplitl [Hrs]; · iexact Hrs
    isplitl [Ht1]; · iexact Ht1
    iexact Hls
  iintro %v42 %v54 %v65 %v71 HO
  try dsimp only
  rw [bind_ok]
  iapply (part3_ok m K c v65 v71) $$ [HO Ht2 S1 S5 Hcb Hat HT Hd Hr0 Hl0 Hq Hk Hv S0]
  · isplitr; · iexact HR
    isplitr; · iexact Hlev
    isplitl [HO]; · iexact HO
    isplitl [Ht2]; · iexact Ht2
    isplitl [S1 S5]
    · unfold ownAny lanes
      iapply (show iprop((∃ f : Buf (Elt F) ((c : Thread nD τ).loc cc0_scratch1), ((c : Thread nD τ).loc cc0_scratch1 ↦{fullShare} f)) ∗ (∃ f : Buf (Elt F) ((c : Thread nD τ).loc cc0_scratch5), ((c : Thread nD τ).loc cc0_scratch5 ↦{fullShare} f)) ∗ emp) ⊢ bigSepL [15, 16] (fun x => dstAny (F := F) x c) from by
        rw [list_cons, list_cons]; exact BI.Entails.refl _)
      isplitl [S1]; · iexact S1
      isplitl [S5]; · iexact S5
      iempintro
    isplitl [Hcb]; · iexact Hcb
    isplitl [Hat]; · iexact Hat
    isplitl [HT]; · iexact HT
    isplitl [Hd]; · unfold todoR; iexact Hd
    isplitl [Hr0]; · iexact Hr0
    isplitl [Hl0]; · iexact Hl0
    isplitl [Hq]; · iexact Hq
    isplitl [Hk]; · iexact Hk
    isplitl [Hv]; · iexact Hv
    iexact S0
  iintro %v96 %c0 ⟨H, Hr, Hl, Hq, Hk, Hv, Hm, Hm', Hb⟩
  try dsimp only
  rw [bind_ok]
  iapply (part4_ok m K c v42 v54 v65 v96 c0) $$ [H Hr Hl Hm Hm']
  · isplitl [H]; · iexact H
    isplitl [Hr]; · iexact Hr
    isplitl [Hl]; · iexact Hl
    isplitl [Hm]; · iexact Hm
    iexact Hm'
  iintro ⟨H, Hm, S1⟩
  try dsimp only
  rw [bind_ok]
  iapply (part5_ok m K c v42) $$ [H S1]
  · isplitl [H] <;> iassumption
  iintro ⟨H, Hr, S1⟩
  try dsimp only
  rw [bind_ok]
  iapply (part6_ok m K c v54) $$ [H Hr]
  · isplitl [H]; · iexact H
    iexact Hr
  iintro ⟨H, Hl⟩
  try dsimp only
  rw [bind_ok]
  iapply (part7_ok m K c v42) $$ [H Hl]
  · isplitl [H]; · iexact H
    iexact Hl
  iintro ⟨H, Hr⟩
  try dsimp only
  rw [bind_ok]
  iapply (part8_ok m K c v54) $$ [H Hr]
  · isplitl [H]; · iexact H
    iexact Hr
  iintro H
  try dsimp only
  rw [bind_ok]
  iapply (part9_ok m K c v42) $$ H
  iintro H
  try dsimp only
  rw [bind_ok]
  iapply (part10_ok m K c v54) $$ H
  iintro H
  try dsimp only
  rw [bind_ok]
  iapply (part11_ok m K c v42) $$ H
  iintro H
  try dsimp only
  rw [bind_ok]
  iapply (part12_ok m K c v54) $$ H
  iintro H
  try dsimp only
  rw [bind_ok]
  iapply (part13_ok m K c v42) $$ H
  iintro H
  try dsimp only
  rw [bind_ok]
  iapply (part14_ok m K c v54) $$ H
  iintro H
  try dsimp only
  rw [bind_ok]
  iapply (part15_ok m K c v42) $$ H
  iintro H
  try dsimp only
  rw [bind_ok]
  iapply (part16_ok m K c v54) $$ H
  iintro H
  try dsimp only
  rw [bind_ok]
  iapply (part17_ok m K c v42) $$ H
  iintro H
  try dsimp only
  rw [bind_ok]
  iapply (part18_ok m K c v42 v54) $$ H
  iintro ⟨H, Hr, Hl⟩
  try dsimp only
  rw [bind_ok]
  iapply (part19_ok m K c v65) $$ [H S4 Ho]
  · isplitl [H]; · iexact H
    isplitl [S4]; · iexact S4
    iexact Ho
  iintro ⟨H, Hs, S5, Ho⟩
  try dsimp only
  unfold St
  icases H with ⟨-, -, HO, -, -, Hs', -, Hd, Hkr, Hkl⟩
  ihave H := (show iprop(records m K ∗ owesE c 0 ∗ doneS c rOrd) ⊢ Fi m K c [15, 16, 0, 1, 2, 3, 4, 5, 6, 7, 8, 9, 10, 11, 12, 13, 14] [] from by
    unfold Fi doneS
    rw [TalkSites.bigSepL_perm sent_perm (by decide)]
    iintro ⟨#HR, HO, Hs⟩
    isplitr; · iexact HR
    isplitl [HO]; · iexact HO
    isplitl [Hs]; · iexact Hs
    iapply (show (iprop(emp) : sProp 𝕄) ⊢ doneF m c [] from BI.Entails.refl _); iempintro) $$ [HO Hs']
  · isplitr; · iexact HR
    isplitl [HO]; · iexact HO
    iexact Hs'
  rw [bind_ok]
  iapply (part20_ok m K c ) $$ H
  iintro H
  try dsimp only
  rw [bind_ok]
  iapply (part21_ok m K c ) $$ H
  iintro H
  try dsimp only
  rw [bind_ok]
  iapply (part22_ok m K c ) $$ H
  iintro H
  try dsimp only
  rw [bind_ok]
  iapply (part23_ok m K c ) $$ H
  iintro H
  try dsimp only
  simp only [Prog.lift, Prog.bind_op, Prog.bind_ret, Prog.pure_eq_ret]
  iapply (fi_step m K c 14 (src := lSl 7) (dst := lSl 6) rfl [] [13, 12, 11, 10, 9, 8, 7, 6, 5, 4, 3, 2, 1, 0, 16, 15]) $$ H
  iintro H
  unfold Fi
  icases H with ⟨-, HO, -, HF⟩
  ihave H := (close_all m c) $$ [HF Hr Hl Hkr Hkl Hm Hs]
  · isplitl [HF]; · iexact HF
    isplitl [Hr]; · iexact Hr
    isplitl [Hl]; · iexact Hl
    isplitl [Hkr]; · iexact Hkr
    isplitl [Hkl]; · iexact Hkl
    isplitl [Hm]; · iexact Hm
    iexact Hs
  icases H with ⟨Hsv, S2, S3, S0, S4⟩
  unfold WP; rw [wp_ret]; imodintro
  iapply HK
  isplitr [HO Hq Hk Hv Ho]
  · unfold Φ₁ scratch
    isplitr [Hb Hi Hsv Hd]
    · isplitl [S0]; · iexists _; unfold qmPt; iexact S0
      isplitl [S1]; · iexists _; iexact S1
      isplitl [S2]; · iexists _; iexact S2
      isplitl [S3]; · iexists _; iexact S3
      isplitl [S4]; · iexists _; unfold saPt; iexact S4
      iexists _; iexact S5
    isplitl [Hb]; · iexact Hb
    isplitl [Hi]; · iexact Hi
    isplitl [Hsv]; · iexact Hsv
    unfold doneR; iexact Hd
  isplitl [HO]; · iexact HO
  isplitl [Hq]; · iexact Hq
  isplitl [Hk]; · iexact Hk
  isplitl [Hv]; · iexact Hv
  iexact Ho

end Cert.RunIdeal
-- ==== Proof.Ideal.Launch.lean ====
/-
The launch: what every device is dealt, from the machine's initial state, before its body runs, and what the
whole run of the program leaves.
-/
module

public import proofs.«01_k».proof.Proof.Ideal.Body
public import Idealize.ShloMosaic.Adequacy
public import Idealize.ShloMosaic.Lib.Quiescent
public import Idealize.ShloMosaic.Lib.Pipeline.CollectiveSegs

@[expose] public section

noncomputable section

namespace Cert.RunIdeal

open Cert.KernelIdeal Cert.KernelIdeal.Gen

open Idealize.ShloMosaic
open Idealize.ShloMosaic.TcCoe
open Idealize.ShloMosaic.ValueIdx (ix3 eq_ix3)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ)
variable (ρ : Dev nD → PrngReg)

/-! ## The pipeline's proof data and the body's obligation -/

/-- The kernel's own semaphores: all but the four of the staged windows. -/
def osem : Fin 38 → SemLoc sig := fun i => .dma ⟨i.val + 4, by have := i.isLt; show _ < 42; omega⟩
theorem ownSemFacts : Pipeline.OwnSemFacts cfg0.spec osem := by decide

/-- The arrays as launched; the inputs' buffers left as fetched, the result's at `outAt`. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => qst m c
    | ⟨1, _⟩ => kst m c
    | ⟨2, _⟩ => vst m c
    | ⟨3, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

theorem owns_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ ((c : Thread nD τ).loc b ↦{fullShare} f)) := by
  unfold owns; simp only [Memref.view_whole, View.read_whole, View.set_whole]

/-- Buffer `b` of device `c` holds `X`. -/
abbrev stg (c : Dev nD) (b : Ref sig .tc) (X : b.ty.Contents (Elt F)) : sProp 𝕄 :=
  iprop(∃ f : Buf (Elt F) ((c : Thread nD τ).loc b), ⌜f = X⌝ ∗ ((c : Thread nD τ).loc b ↦{fullShare} f))

def bodyPre (c : Dev nD) : sProp 𝕄 :=
  iprop(Φ₀ m c ∗ (dats m ρ 0 c).owesAt () t0_0.castSucc
    ∗ (∃ d, stg c cc0_stg0_0 ((dats m ρ 0 c).before (0 : Fin 4) t0_0 d))
    ∗ (∃ d, stg c cc0_stg1_0 ((dats m ρ 0 c).before (1 : Fin 4) t0_0 d))
    ∗ (∃ d, stg c cc0_stg2_0 ((dats m ρ 0 c).before (2 : Fin 4) t0_0 d))
    ∗ (∃ d, stg c cc0_stg3_0 ((dats m ρ 0 c).before (3 : Fin 4) t0_0 d)))
def bodyPost (c : Dev nD) : sProp 𝕄 :=
  iprop(Φ₁ c ∗ (dats m ρ 0 c).owesAt () t0_0.succ ∗ stg c cc0_stg0_0 (qst m c) ∗ stg c cc0_stg1_0 (kst m c)
    ∗ stg c cc0_stg2_0 (vst m c) ∗ stg c cc0_stg3_0 (outAt m c))

set_option maxRecDepth 16384 in
set_option maxHeartbeats 800000 in
/-- The body at the one grid point, between what the library hands it and what it asks back. -/
theorem body_obligation (c : Dev nD) : BodyObligation (dats (F := F) m ρ 0 c) (defs₀ (F := F)) 𝒱₀ () Set.univ := fun t => by
  rw [fin_N0 t]
  rw [bigSep_W0, bigSep_W0]
  simp only [owns_eq]
  show bodyPre m ρ c ⊢ WP c (cc0_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11) (fun _ => bodyPost m ρ c)
  unfold bodyPre Φ₀ start
  iintro ⟨⟨⟨⟨%K, HR, HL, Hi⟩, Hlev, Hcb, Hcr⟩, Hscr⟩, Ho, ⟨%d0, %g0, %hg0, Hq⟩, ⟨%d1, %g1, %hg1, Hk⟩, ⟨%d2, %g2, %hg2, Hv⟩, ⟨%d3, %g3, %hg3, Hout⟩⟩
  have h0 : g0 = qst m c := by rw [hg0]; unfold Dat.before; rw [if_pos (fetch0_0 t0_0)]; rfl
  have h1 : g1 = kst m c := by rw [hg1]; unfold Dat.before; rw [if_pos (fetch0_1 t0_0)]; rfl
  have h2 : g2 = vst m c := by rw [hg2]; unfold Dat.before; rw [if_pos (fetch0_2 t0_0)]; rfl
  rw [h0, h1, h2]
  unfold Dat.owesAt Pipeline.owesWithin
  icases Ho with ⟨%W, %hW, HO⟩
  rw [show (dats m ρ 0 c).owed t0_0.castSucc = O₀ c from rfl]
  iapply (sound_body m K c (Q := fun _ => bodyPost m ρ c)) $$ [HR HL Hi Hlev Hcb Hcr Hscr HO Hq Hk Hv Hout]
  · isplitl [HR]; · iexact HR
    isplitl [HL]; · iexact HL
    isplitl [Hi]; · iexact Hi
    isplitl [Hlev]; · iexact Hlev
    isplitl [Hcb]; · iexact Hcb
    isplitl [Hcr]; · iexact Hcr
    isplitl [Hscr]; · iexact Hscr
    isplitl [HO]; · unfold owesE; iexists W; iexact HO
    isplitl [Hq]; · iexact Hq
    isplitl [Hk]; · iexact Hk
    isplitl [Hv]; · iexact Hv
    iexists g3; iexact Hout
  unfold owesE
  iintro ⟨H1, ⟨%W', HO⟩, Hq, Hk, Hv, Hout⟩
  unfold bodyPost
  isplitl [H1]; · iexact H1
  isplitl [HO]
  · unfold Dat.owesAt Pipeline.owesWithin
    rw [show (dats m ρ 0 c).owed t0_0.succ = 0 from rfl]
    iexists W'
    isplitr; · (ipureintro; exact fun _ _ => Or.inl trivial)
    iexact HO
  isplitl [Hq]
  · iexists _; isplitr; · (ipureintro; rfl)
    iexact Hq
  isplitl [Hk]
  · iexists _; isplitr; · (ipureintro; rfl)
    iexact Hk
  isplitl [Hv]
  · iexists _; isplitr; · (ipureintro; rfl)
    iexact Hv
  iexists _; isplitr; · (ipureintro; rfl)
  iexact Hout

/-! ## Cells and tokens -/

theorem share_eq (c : Dev nD) (w : Fin cfg0.W) : (dats m ρ 0 c).share w = fullShare := by unfold Dat.share; split <;> rfl

theorem csem_injective : ∀ k k' : CI, csem k = csem k' → k = k' := by decide +kernel
theorem kcell_injective : Function.Injective kcell := by
  rintro ⟨c, k⟩ ⟨c', k'⟩ h
  have h1 : c = c' := congrArg (fun g : GSem nD τ sig => g.1.1) h
  have h2 : k = k' := csem_injective k k' (congrArg Prod.snd h)
  rw [h1, h2]
def cells : Finset (GSem nD τ sig) := Finset.univ.map ⟨kcell, kcell_injective⟩

/-- A device's own duties: the three of its barrier, one per sending and one per receiving semaphore. -/
abbrev J : Type := Fin 3 ⊕ (Bool × Fin 17)
def tokJ : J → SemLoc sig × Fin 3
  | .inl d => (.reg barS, d)
  | .inr (false, x) => (.dma (sN x), 0)
  | .inr (true, x) => (.dma (rN x), 0)
theorem tokJ_injective : ∀ j j' : J, tokJ j = tokJ j' → j = j' := by decide +kernel
def tokOf (p : Dev nD × J) : GSem nD τ sig × ℕ × Fin 3 := (((p.1 : Thread nD τ), (tokJ p.2).1), 0, (tokJ p.2).2)
theorem tokOf_injective : Function.Injective tokOf := by
  rintro ⟨c, j⟩ ⟨c', j'⟩ h
  have h1 : c = c' := congrArg (fun x : GSem nD τ sig × ℕ × Fin 3 => x.1.1.1) h
  have h2 : j = j' := tokJ_injective j j'
    (Prod.ext (congrArg (fun x : GSem nD τ sig × ℕ × Fin 3 => x.1.2) h) (congrArg (fun x : GSem nD τ sig × ℕ × Fin 3 => x.2.2) h))
  rw [h1, h2]
def tokens : Finset (GSem nD τ sig × ℕ × Fin 3) := Finset.univ.map ⟨tokOf, tokOf_injective⟩

def u₀ : UU :=
  (initOf (Pipeline.cells cfgs cellOf_inj) (Pipeline.launchToks cfgs cellOf_inj), initOf cells tokens)

/-- The token of one duty. -/
def tok (p : Dev nD × J) : sProp 𝕄 := dutyTok ER (tokOf p).1 (tokOf p).2.1 (tokOf p).2.2

/-- What the launch deals device `c`: its cells' states, its places at them, its own duties' tokens. -/
def G (c : Dev nD) : sProp 𝕄 :=
  iprop((bigSep Finset.univ fun k : CI => roundState ER (Rd m) (kcell (c, k)) 0)
    ∗ (bigSep Finset.univ fun k : CI => iprop(atPos ER (kcell (c, k)) 0 ∅ 0 ∗ reached ER (kcell (c, k)) 0))
    ∗ bigSep Finset.univ fun j : J => tok (c, j))
/-- What the global step makes of it. -/
def G' (c : Dev nD) : sProp 𝕄 := iprop(∃ K : Dev nD × CI → ℕ, records m K ∗ linear c ∗ idles c)

theorem over_cells (Φ : GSem nD τ sig → sProp 𝕄) : bigSep cells Φ = bigSep Finset.univ fun c : Dev nD => bigSep Finset.univ fun k : CI => Φ (kcell (c, k)) := by
  unfold cells; rw [bigSep_map, bigSep_univ_prod]; rfl
theorem over_tokens : bigSep tokens (fun x => (dutyTok ER x.1 x.2.1 x.2.2 : sProp 𝕄)) = bigSep Finset.univ fun c : Dev nD => bigSep Finset.univ fun j : J => tok (c, j) := by
  unfold tokens; rw [bigSep_map, bigSep_univ_prod]; rfl

theorem fund : BI.own (ER (initOf cells tokens)) ⊢ (|==> bigSep Finset.univ (G m) : sProp 𝕄) := by
  iintro HX
  imod (Rounds.fund ER (Rd m) cells tokens) $$ HX with ⟨Hst, Hr, Hat, Htok⟩
  imodintro
  ihave Hst' := (Entails.of_eq (over_cells fun g => roundState ER (Rd m) g 0)) $$ Hst
  ihave Hat' := (Entails.of_eq (over_cells (F := F) fun g => atPos ER g 0 ∅ 0)) $$ Hat
  ihave Hr' := (Entails.of_eq (over_cells (F := F) fun g => reached ER g 0)) $$ Hr
  ihave Htok' := (Entails.of_eq (over_tokens (F := F))) $$ Htok
  unfold G; simp only [bigSep_sep']
  isplitl [Hst']; · iexact Hst'
  isplitl [Hat' Hr']
  · isplitl [Hat'] <;> iassumption
  iexact Htok'

/-! ## Every device's pieces, in lists -/

theorem over_ci (Φ : CI → sProp 𝕄) :
    bigSep Finset.univ Φ = iprop(Φ none ∗ bigSepL order (fun x => Φ (some (false, x))) ∗ bigSepL order (fun x => Φ (some (true, x)))) := by
  rw [bigSep_univ_eq_bigSepL (none :: (order.map (fun x => some (false, x)) ++ order.map (fun x => some (true, x)))) (by decide) (by decide) Φ,
    list_cons, bigSepL_append, bigSepL_map, bigSepL_map]
theorem over_j (Φ : J → sProp 𝕄) :
    bigSep Finset.univ Φ = iprop(Φ (.inl 0) ∗ Φ (.inl 1) ∗ Φ (.inl 2) ∗ bigSepL order (fun x => Φ (.inr (false, x))) ∗ bigSepL order (fun x => Φ (.inr (true, x)))) := by
  rw [bigSep_univ_eq_bigSepL (.inl 0 :: .inl 1 :: .inl 2 :: (order.map (fun x => .inr (false, x)) ++ order.map (fun x => .inr (true, x)))) (by decide) (by decide) Φ,
    list_cons, list_cons, list_cons, bigSepL_append, bigSepL_map, bigSepL_map]

set_option maxRecDepth 16384 in
/-- The kernel's own semaphores: the four nothing uses, the sending and the receiving ones. -/
theorem own_sems (c : Dev nD) : (Pipeline.ownSems0 (Ix := Unit) (Name := ℕ) (U := UU) (Lvl := ℕ) (Val := Elt F) (τ := τ) osem c : sProp 𝕄)
    = iprop(idles c ∗ (bigSepL wOrd fun x => semVal (sCell x c) 0) ∗ bigSepL rOrd fun x => semVal (rCell x c) 0) := by
  rw [Pipeline.ownSems0_eq_of_list c osem ([2, 11, 20, 28] ++ ([27, 26, 25, 24, 23, 22, 21, 10, 9, 8, 7, 6, 5, 4, 3, 36, 0] ++ [37, 19, 35, 18, 34, 17, 33, 16, 32, 15, 31, 14, 30, 13, 29, 12, 1])) (by decide) (by decide),
    bigSepL_append, bigSepL_append]; rfl
theorem unscoped_sems (c : Dev nD) : (unscopedSems0 c : sProp 𝕄) = semVal (barCell c) 0 := by
  unfold unscopedSems0; rw [bigSep_eq_bigSepL_of_eq [SemLoc.reg barS] (by decide) (by decide)]; rfl

theorem w_perm : (wOrd : List (Fin 17)).Perm order := by decide
theorem r_perm : (rOrd : List (Fin 17)).Perm order := by decide

theorem sems_split (c : Dev nD) :
    iprop(Pipeline.ownSems0 (Ix := Unit) (Name := ℕ) (U := UU) (Lvl := ℕ) (Val := Elt F) (τ := τ) osem c ∗ unscopedSems0 c)
      ⊢ iprop((bigSep Finset.univ fun k : CI => semVal (kcell (c, k)) 0) ∗ idles c : sProp 𝕄) := by
  rw [own_sems, unscoped_sems, over_ci, TalkSites.bigSepL_perm w_perm (by decide), TalkSites.bigSepL_perm r_perm (by decide)]
  iintro ⟨⟨Hi, Hs, Hr⟩, Hb⟩
  isplitr [Hi]
  · isplitl [Hb]; · iexact Hb
    isplitl [Hs]; · iexact Hs
    iexact Hr
  iexact Hi

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0))
          ∗ (bigSep Finset.univ fun j : J => tok (c, j)) ∗ idles c) := by
  unfold G
  iintro ⟨Hos, Hus, Hst, Hat, Htok⟩
  ihave Hv := (sems_split (F := F) c) $$ [Hos Hus]
  · isplitl [Hos] <;> iassumption
  icases Hv with ⟨Hv, Hi⟩
  imod (show iprop((bigSep Finset.univ fun k : CI => semVal (kcell (c, k)) 0) ∗ bigSep Finset.univ fun k : CI => roundState ER (Rd m) (kcell (c, k)) 0)
      ⊢ (|={Set.univ}=> bigSep Finset.univ fun k => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  iexact Hi

/-- The device whose duty `j` device `c` pays, and who pays device `c`'s. -/
def payee : J → Dev nD → Dev nD
  | .inl d => ![lft, rgt, far] d
  | .inr (false, _) => id
  | .inr (true, x) => peer x
def payer : J → Dev nD → Dev nD
  | .inl d => ![rgt, lft, far] d
  | .inr (false, _) => id
  | .inr (true, x) => back x
theorem payer_payee (j : J) (c : Dev nD) : payer j (payee j c) = c := by
  rcases j with d | ⟨_ | _, x⟩
  · fin_cases d
    · exact rgt_lft c
    · exact lft_rgt c
    · exact far_far c
  · rfl
  · exact back_peer x c
theorem payee_payer (j : J) (c : Dev nD) : payee j (payer j c) = c := by
  rcases j with d | ⟨_ | _, x⟩
  · fin_cases d
    · exact lft_rgt c
    · exact rgt_lft c
    · exact far_far c
  · rfl
  · exact peer_back x c
def around : Dev nD × J ≃ Dev nD × J where
  toFun p := (payee p.2 p.1, p.2)
  invFun p := (payer p.2 p.1, p.2)
  left_inv p := Prod.ext (payer_payee p.2 p.1) rfl
  right_inv p := Prod.ext (payee_payer p.2 p.1) rfl

/-- The tokens, from the devices whose duties they are to the devices that pay them. -/
theorem toks_around : (bigSep Finset.univ fun c : Dev nD => bigSep Finset.univ fun j : J => (tok (c, j) : sProp 𝕄))
    = bigSep Finset.univ fun c : Dev nD => bigSep Finset.univ fun j : J => tok (payee j c, j) := by
  rw [← bigSep_univ_prod (fun p : Dev nD × J => (tok p : sProp 𝕄)), bigSep_univ_equiv around, bigSep_univ_prod]; rfl

theorem linear_intro (c : Dev nD) :
    iprop((bigSep Finset.univ fun k : CI => (atPos ER (kcell (c, k)) 0 ∅ 0 : sProp 𝕄)) ∗ bigSep Finset.univ fun j : J => tok (payee j c, j)) ⊢ linear c := by
  rw [over_ci, over_j]
  unfold linear tokS
  iintro ⟨⟨Hb, Hs, Hr⟩, H0, H1, H2, Hts, Htr⟩
  isplitl [H0]; · iapply (show (tok (payee (.inl 0) c, .inl 0) : sProp 𝕄) ⊢ dutyTok ER (barCell (lft c)) 0 0 from BI.Entails.refl _); iexact H0
  isplitl [H1]; · iapply (show (tok (payee (.inl 1) c, .inl 1) : sProp 𝕄) ⊢ dutyTok ER (barCell (rgt c)) 0 1 from BI.Entails.refl _); iexact H1
  isplitl [H2]; · iapply (show (tok (payee (.inl 2) c, .inl 2) : sProp 𝕄) ⊢ dutyTok ER (barCell (far c)) 0 2 from BI.Entails.refl _); iexact H2
  isplitl [Hb]; · iexact Hb
  isplitr [Hr]
  · iapply (list_zip order (fun x => (dutyTok ER (sCell x c) 0 0 : sProp 𝕄)) (fun x => iprop(dutyTok ER (rCell x (peer x c)) 0 0 ∗ atPos ER (sCell x c) 0 ∅ 0)))
    isplitl [Hts]; · iexact Hts
    iapply (list_zip order (fun x => (dutyTok ER (rCell x (peer x c)) 0 0 : sProp 𝕄)) (fun x => atPos ER (sCell x c) 0 ∅ 0))
    isplitl [Htr]; · iexact Htr
    iexact Hs
  iexact Hr

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0))
          ∗ (bigSep Finset.univ fun j : J => tok (c, j)) ∗ idles c) : sProp 𝕄)
      ⊢ bigSep Finset.univ (G' m) := by
  rw [bigSep_sep', bigSep_sep', bigSep_sep', ← bigSep_univ_prod (fun p : Dev nD × CI => iprop(∃ κ : ℕ, cellInv ER (Rd m) κ (kcell p))),
    bigSep_congr (s := Finset.univ) (fun (c : Dev nD) _ => bigSep_sep' Finset.univ (fun k : CI => (atPos ER (kcell (c, k)) 0 ∅ 0 : sProp 𝕄)) (fun k => reached ER (kcell (c, k)) 0)),
    bigSep_sep', ← bigSep_univ_prod (fun p : Dev nD × CI => (reached ER (kcell p) 0 : sProp 𝕄)), toks_around]
  iintro ⟨HI, ⟨Hat, #HR⟩, Htok, Hi⟩
  ihave HK := (BI.bigSep_exists_pi Finset.univ (fun (p : Dev nD × CI) (κ : ℕ) => (cellInv ER (Rd m) κ (kcell p) : sProp 𝕄))) $$ HI
  icases HK with ⟨%K, #HI⟩
  iapply (with_persistent (R := records m K) (Φ := fun c => iprop(linear c ∗ idles c)) fun c _ => by
    unfold G'
    iintro ⟨H1, H2, H3⟩
    iexists K
    isplitl [H1]; · iexact H1
    isplitl [H2] <;> iassumption)
  isplitr
  · unfold records; isplitl; · iexact HI
    iexact HR
  rw [bigSep_sep']
  isplitr [Hi]
  · iapply ((Entails.of_eq (bigSep_sep' Finset.univ (fun c : Dev nD => bigSep Finset.univ fun k : CI => (atPos ER (kcell (c, k)) 0 ∅ 0 : sProp 𝕄))
        (fun c => bigSep Finset.univ fun j : J => tok (payee j c, j))).symm).trans (bigSep_mono fun c _ => linear_intro c))
    isplitl [Hat]; · iexact Hat
    iexact Htok
  iexact Hi

/-- The global step: every device's semaphores at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

/-- If every device `d` owes `n` units to cell `sm` of device `f d`, `f` a bijection, then device `c` is owed `n`. -/
theorem launch_perm (f g : Dev nD → Dev nD) (hfg : ∀ d, f (g d) = d) (hgf : ∀ d, g (f d) = d) (sm : SemLoc sig) (n : ℕ) (c : Dev nD) :
    (Pipeline.launchCred (fun d => tallyAt ((f d : Thread nD τ), sm) () n) c : sProp 𝕄) ⊢ cred (tallyAt ((c : Thread nD τ), sm) () n) := by
  refine (Pipeline.launchCred_elim _ c sm).trans (Entails.of_eq ?_)
  congr 1
  unfold tallyAt
  refine congrArg _ (Finsupp.ext fun u => ?_); cases u
  rw [Pipeline.launchCredit_owing, Finset.sum_eq_single (g c)]
  · show tallyAt ((f (g c) : Thread nD τ), sm) () n ((c : Thread nD τ), sm) () = _
    rw [hfg, tallyAt_apply, if_pos ⟨rfl, rfl⟩, Finsupp.single_eq_same]
  · intro d _ hd
    show tallyAt ((f d : Thread nD τ), sm) () n ((c : Thread nD τ), sm) () = 0
    rw [tallyAt_apply, if_neg]
    rintro ⟨h, -⟩
    have h' : c = f d := congrArg (fun g : GSem nD τ sig => g.1.1) h
    exact hd (by rw [h', hgf])
  · intro h; exact absurd (Finset.mem_univ _) h

theorem launch_list (c : Dev nD) : ∀ l : List (Fin 17), (Pipeline.launchCred (fun d => owedL d l) c : sProp 𝕄) ⊢ bigSepL l (fun x => cred (tallyAt (rCell x c) () (amt x)))
  | [] => by
    rw [show (fun d : Dev nD => owedL d []) = fun _ => 0 from rfl, Pipeline.launchCred_zero]
    exact BI.Entails.refl _
  | x :: l => by
    rw [show (fun d : Dev nD => owedL d (x :: l)) = fun d => owedL d l + tallyAt (rCell x (peer x d)) () (amt x) from rfl, Pipeline.launchCred_add, list_cons]
    iintro ⟨H1, H2⟩
    isplitl [H2]
    · iapply (launch_perm (peer x) (back x) (peer_back x) (back_peer x) (.dma (rN x)) (amt x) c); iexact H2
    · iapply (launch_list c l); iexact H1

theorem tally_three (g : GSem nD τ sig) : (tallyAt g () 3 : CellTallies nD τ sig Unit) = tallyAt g () 1 + tallyAt g () 1 + tallyAt g () 1 := by
  rw [tallyAt_add, tallyAt_add]

theorem creds (c : Dev nD) :
    (Pipeline.launchCred O₀ c : sProp 𝕄) ⊢ iprop(cred (tallyAt (barCell c) () 3) ∗ bigSepL order (fun x => cred (tallyAt (rCell x c) () (amt x)))) := by
  rw [show (O₀ : Dev nD → CellTallies nD τ sig Unit) = fun d => O₁ d + tallyAt (barCell (lft d)) () 1 from rfl, Pipeline.launchCred_add,
    show (O₁ : Dev nD → CellTallies nD τ sig Unit) = fun d => O₂ d + tallyAt (barCell (rgt d)) () 1 from rfl, Pipeline.launchCred_add,
    show (O₂ : Dev nD → CellTallies nD τ sig Unit) = fun d => owedL d order + tallyAt (barCell (far d)) () 1 from rfl, Pipeline.launchCred_add]
  iintro ⟨⟨⟨H, H1⟩, H2⟩, H3⟩
  isplitr [H]
  · rw [tally_three]
    iapply (cred_add _ _).2
    isplitr [H3]
    · iapply (cred_add _ _).2
      isplitl [H1]
      · iapply (launch_perm far far far_far far_far (.reg barS) 1 c); iexact H1
      · iapply (launch_perm rgt lft rgt_lft lft_rgt (.reg barS) 1 c); iexact H2
    · iapply (launch_perm lft rgt lft_rgt rgt_lft (.reg barS) 1 c); iexact H3
  · iapply (launch_list c order); iexact H

/-! ## The run -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [Hlev]; · iexact Hlev
    isplitl [H1]; · iexact H1
    iexact HN
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scratch
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, own_sems, unscoped_sems]
  unfold Φ₁ scratch
  iintro ⟨Hr, Hb, Hi, Hs, Hv⟩
  isplitl [Hb]; · iexact Hb
  isplitr [Hr]
  · isplitl [Hi]; · iexact Hi
    isplitl [Hs] <;> iassumption
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-- What window `w`'s array holds at the end. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 16384 in
/-- The program's run, for any float values and any launch memory: it ends on every schedule, every window's array at
    its final contents and every semaphore's counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.RunIdeal
-- ==== Proof.Ideal.Result.lean ====
/-
What the run leaves, array by array: the arguments as they were, the result as the body computed it.
-/
module

public import proofs.«01_k».proof.Proof.Ideal.Launch

@[expose] public section

noncomputable section

namespace Cert.RunIdeal

open Cert.KernelIdeal Cert.KernelIdeal.Gen

open Idealize.ShloMosaic
open Idealize.ShloMosaic.TcCoe
open Idealize.ShloMosaic.ValueIdx (ix3 eq_ix3)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ)
variable (ρ : Dev nD → PrngReg)

/-- Window 0's one block is the whole argument array. -/
theorem qst_eq (c : Dev nD) : qst m c = m ((c : Thread nD τ).loc main_arg0) := by
  have hz : (fun a => (win0_0.index t0_0) a * main_arg0.ty.shape.size a) = fun _ => 0 := funext fun a => by fin_cases a <;> decide
  unfold qst iblk
  exact Memref.read_access_unit_zero (Elt F) main_arg0 hz (fun a => by fin_cases a <;> decide) _

/-- Window 1's one block is the whole argument array. -/
theorem kst_eq (c : Dev nD) : kst m c = m ((c : Thread nD τ).loc main_arg1) := by
  have hz : (fun a => (win0_1.index t0_0) a * main_arg1.ty.shape.size a) = fun _ => 0 := funext fun a => by fin_cases a <;> decide
  unfold kst iblk
  exact Memref.read_access_unit_zero (Elt F) main_arg1 hz (fun a => by fin_cases a <;> decide) _

/-- Window 2's one block is the whole argument array. -/
theorem vst_eq (c : Dev nD) : vst m c = m ((c : Thread nD τ).loc main_arg2) := by
  have hz : (fun a => (win0_2.index t0_0) a * main_arg2.ty.shape.size a) = fun _ => 0 := funext fun a => by fin_cases a <;> decide
  unfold vst iblk
  exact Memref.read_access_unit_zero (Elt F) main_arg2 hz (fun a => by fin_cases a <;> decide) _

/-- The argument arrays end as launched. -/
theorem final_arg (c : Dev nD) (w : Fin cfg0.W) (h : (cfg0.win w).isOut = false) :
    finalA m ρ c w = m ((cfg0.win w).arr.view.loc (c : Thread nD τ)) := (dats m ρ 0 c).arrAt_in w h _

/-- The result array ends holding what the body left in its buffer. -/
theorem final_out (c : Dev nD) : finalA m ρ c (3 : Fin 4) = outAt m c := by
  have hz : (fun a => (win0_3.index t0_0) a * main_v1.ty.shape.size a) = fun _ => 0 := funext fun a => by fin_cases a <;> decide
  have ho : (win0_3.blk t0_0).view.read (Elt F) (finalA m ρ c (3 : Fin 4)) = outAt m c := by
    unfold finalA
    rw [show cfg0.N = t0_0.val + 1 from rfl, (dats m ρ 0 c).arrAt_succ (3 : Fin 4) t0_0, if_pos (flush0_3 t0_0)]
    exact View.read_write_univ _ _
  exact (Memref.read_access_unit_zero (Elt F) main_v1 hz (fun a => by fin_cases a <;> decide) _).symm.trans ho

/-- The whole run: results, arguments, counters. -/
theorem run_all : θ_run defs (onTc (τ := τ) (main (F := F))) ⟨m, fun _ => 0, ρ⟩ (fun r => (∀ c : Dev nD,
      r.2.mem ((c.tc : Thread nD τ).loc main_v1) = outAt m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨(h.1 c 3).trans (final_out m ρ c), (h.1 c 0).trans (final_arg m ρ c 0 rfl),
      (h.1 c 1).trans (final_arg m ρ c 1 rfl), (h.1 c 2).trans (final_arg m ρ c 2 rfl)⟩, h.2⟩)
    (run_main m ρ)

end Cert.RunIdeal
-- ==== Proof.Frames.lean ====
/-
The claims that say the programs run: the kernel's as printed and idealized, the reference's; and the
one rewrite's statement.
-/
module

public import proofs.«01_k».proof.Defs
public import proofs.«01_k».proof.Proof.Ideal.Result
public import proofs.«01_k».proof.Proof.Bits.Result
public import proofs.«01_k».proof.Proof.Gen.ReferenceIdeal.Run
public import Idealize.ShloMosaic.Lib.Quiescent

@[expose] public section

noncomputable section

namespace Cert.Claims

open Idealize.ShloMosaic Idealize.SL.Sem

/-- The kernel as printed runs on every schedule and leaves its arguments unchanged and its counters at zero. -/
theorem frame_p : Cert.quiescent_Kernel := fun m ρ _ =>
  (θ_run Cert.Kernel.defs _ _).mono (fun _ h => ⟨fun c => (h.1 c).2, h.2⟩) (Cert.RunBits.run_all (F := Bits) m ρ)
/-- So does its idealization. -/
theorem frame_pi : Cert.quiescent_KernelIdeal := fun m ρ _ =>
  (θ_run Cert.KernelIdeal.defs _ _).mono (fun _ h => ⟨fun c => (h.1 c).2, h.2⟩) (Cert.RunIdeal.run_all (F := Ideal) m ρ)
/-- So does the reference. -/
theorem frame_ri : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)
/-- The one rewrite of the idealization is what its rule says: the constant named is `(√128)⁻¹`. -/
theorem preserves : Cert.preserves_Kernel_KernelIdeal :=
  IdealRules.named_const.statement Cert.KernelIdeal.κ "inv_sqrt_d" .bf16 0x3DB5#16 (((Real.sqrt 128)⁻¹ : ℝ) : EReal) rfl

end Cert.Claims

end
-- ==== Proof.Value.Kernel.lean ====
/-
The kernel's result at an index, as sums over the extended reals: device `c`'s row `r` holds, over all
32 devices' 512 keys each, the sum of the weights times the values divided by the sum of the weights.
-/
module

public import proofs.«01_k».proof.Proof.Ideal.Result
public import Idealize.ShloMosaic.Lib.Pointwise

@[expose] public section

set_option maxRecDepth 16384

noncomputable section

namespace Cert.ValueOf

open Cert.KernelIdeal Cert.KernelIdeal.Gen Cert.RunIdeal
open Idealize.ShloMosaic

/-! ## The operations of the body at an index -/

/-- A query is scaled by `(√128)⁻¹`. -/
theorem scaled_at (q : Vec Ideal S512x128 .bf16) (r : Fin 512) (l : Fin 128) :
    k0_pay7 (F := Ideal) q (ix2 r l) = q (ix2 r l) * (((Real.sqrt 128)⁻¹ : ℝ) : EReal) := by
  pointwise [k0_pay7]
  rw [IdealRules.named_const.ideal_named_scalar κ "inv_sqrt_d" _ (((Real.sqrt 128)⁻¹ : ℝ) : EReal) rfl]

/-- A slot's keys are the device's keys. -/
theorem keys_at (k : Vec Ideal S512x128 .bf16) (t : Fin 512) (l : Fin 128) : k0_pay3 (F := Ideal) k (ix3 0 t l) = k (ix2 t l) := by
  pointwise [k0_pay3, k0_pay1]

/-- A slot's values are the device's values. -/
theorem vals_at (v : Vec Ideal S512x128 .bf16) (t : Fin 512) (l : Fin 128) : k0_pay4 (F := Ideal) v (ix3 0 t l) = v (ix2 t l) := by
  pointwise [k0_pay4, k0_pay2]

/-- The upper half of the joined queries is the first operand. -/
theorem own_at (a b : Vec Ideal S512x128 .bf16) (r : Fin 512) (l : Fin 128) (h : r.val < 1024) :
    k0_pay8 (F := Ideal) a b (ix2 ⟨r.val, h⟩ l) = a (ix2 r l) := by
  pointwise [k0_pay8]

/-- The lower half of the joined queries is the second operand. -/
theorem other_at (a b : Vec Ideal S512x128 .bf16) (r : Fin 512) (l : Fin 128) (h : 512 + r.val < 1024) :
    k0_pay8 (F := Ideal) a b (ix2 ⟨512 + r.val, h⟩ l) = b (ix2 r l) := by
  pointwise [k0_pay8]

/-- What one block of keys and values adds at row `x`, column `y`: values left of column 128, ones right of it. -/
def gain (Q : FVec Ideal S1024x128 .bf16) (k v : Vec Ideal S1x512x128 .bf16) (x : Fin 1024) (y : Fin 256) : EReal :=
  ∑ t : Fin 512, Ideal.exp (∑ l : Fin 128, Q (ix2 x l) * k (ix3 0 t l)) * if h : y.val < 128 then v (ix3 0 t ⟨y.val, h⟩) else 1

/-- The accumulator after a block is the accumulator before it plus the block's gain. -/
theorem step_at (Q : FVec Ideal S1024x128 .bf16) (A : FVec Ideal S1024x256 .f32) (k v : Vec Ideal S1x512x128 .bf16) (x : Fin 1024) (y : Fin 256) :
    k0_pay11 (F := Ideal) Q (k0_pay9 (F := Ideal)) A k v (ix2 x y) = A (ix2 x y) + gain Q k v x y := by
  pointwise [k0_pay11, k0_pay9]
  rfl

/-- The first block's accumulator is the block's gain. -/
theorem start_at (a b : FVec Ideal S512x128 .bf16) (k v : Vec Ideal S1x512x128 .bf16) (x : Fin 1024) (y : Fin 256) :
    k0_pay10 (F := Ideal) a b k v (ix2 x y) = gain (k0_pay8 a b) k v x y := by
  pointwise [k0_pay10, k0_pay9]
  rfl

/-- The last block's accumulator is the accumulator before it plus the block's gain. -/
theorem last_at (Q : FVec Ideal S1024x128 .bf16) (A : FVec Ideal S1024x256 .f32) (k v : Vec Ideal S1x512x128 .bf16) (x : Fin 1024) (y : Fin 256) :
    k0_pay34 (F := Ideal) Q (k0_pay9 (F := Ideal)) A k v (ix2 x y) = A (ix2 x y) + gain Q k v x y := by
  pointwise [k0_pay34, k0_pay9]
  rfl

/-- What goes to the partner is the lower half of the last accumulator. -/
theorem sent_at (Q : FVec Ideal S1024x128 .bf16) (A : FVec Ideal S1024x256 .f32) (k v : Vec Ideal S1x512x128 .bf16) (r : Fin 512) (y : Fin 256) :
    k0_pay35 (F := Ideal) Q (k0_pay9 (F := Ideal)) A k v (ix2 r y) = k0_pay34 (F := Ideal) Q (k0_pay9 (F := Ideal)) A k v (ix2 ⟨512 + r.val, by omega⟩ y) := by
  rw [k0_pay35]
  pointwise

/-- The result is a quotient: the numerators' column over column 128, each the upper half of the last accumulator plus what the partner sent. -/
theorem out_at (Q : FVec Ideal S1024x128 .bf16) (A : FVec Ideal S1024x256 .f32) (k v : Vec Ideal S1x512x128 .bf16) (p : Vec Ideal S512x256 .bf16) (r : Fin 512) (j : Fin 128) :
    k0_pay36 (F := Ideal) Q (k0_pay9 (F := Ideal)) A k v p (ix2 r j)
      = Ideal.div (k0_pay34 (F := Ideal) Q (k0_pay9 (F := Ideal)) A k v (ix2 ⟨r.val, by omega⟩ ⟨j.val, by omega⟩) + p (ix2 r ⟨j.val, by omega⟩))
          (k0_pay34 (F := Ideal) Q (k0_pay9 (F := Ideal)) A k v (ix2 ⟨r.val, by omega⟩ 128) + p (ix2 r 128)) := by
  rw [k0_pay36]
  pointwise

/-! ## All the blocks -/

variable (m : (ℓ : Loc nD τ sig) → Buf (Elt Ideal) ℓ)

/-- The weight of device `d`'s key `t` for device `c`'s row `r`. -/
def weight (c : Dev nD) (r : Fin 512) (d : Dev nD) (t : Fin 512) : EReal :=
  Ideal.exp (∑ l : Fin 128, qst m c (ix2 r l) * (((Real.sqrt 128)⁻¹ : ℝ) : EReal) * kst m d (ix2 t l))

/-- The weights of device `d`'s keys times their values at column `y`; from column 128 on, the weights alone. -/
def share (c : Dev nD) (r : Fin 512) (y : Fin 256) (d : Dev nD) : EReal :=
  ∑ t : Fin 512, weight m c r d t * if h : y.val < 128 then vst m d (ix2 t ⟨y.val, h⟩) else 1

/-- A block's gain in a device's own row. -/
theorem gain_own (c d : Dev nD) (r : Fin 512) (y : Fin 256) (h : r.val < 1024) :
    gain (qall m c) (kk m d) (vv m d) ⟨r.val, h⟩ y = share m c r y d := by
  unfold gain share weight qall qsc kk vv
  simp only [own_at, scaled_at, keys_at, vals_at]

/-- A block's gain in the partner's row. -/
theorem gain_other (c d : Dev nD) (r : Fin 512) (y : Fin 256) (h : 512 + r.val < 1024) :
    gain (qall m c) (kk m d) (vv m d) ⟨512 + r.val, h⟩ y = share m (far c) r y d := by
  unfold gain share weight qall qsc kk vv
  simp only [other_at, scaled_at, keys_at, vals_at]

/-- The accumulator after `n` steps is the gains of the blocks met so far. -/
theorem acc_at (c : Dev nD) (x : Fin 1024) (y : Fin 256) (n : ℕ) :
    acc m c n (ix2 x y) = ((List.range (n + 1)).map fun i => gain (qall m c) (kk m (nth c i)) (vv m (nth c i)) x y).sum := by
  induction n with
  | zero =>
    rw [acc, start_at]
    simp [qall, nth]
  | succ n ih =>
    rw [acc, step_at, ih, List.range_succ (n := n + 1), List.map_append, List.sum_append]
    simp

/-- So is the last accumulator: the gains of the sixteen blocks of the device's own row. -/
theorem full_at (c : Dev nD) (x : Fin 1024) (y : Fin 256) :
    k0_pay34 (F := Ideal) (qall m c) (k0_pay9 (F := Ideal)) (acc m c 14) (kk m (lft^[8] c)) (vv m (lft^[8] c)) (ix2 x y)
      = ((List.range 16).map fun i => gain (qall m c) (kk m (nth c i)) (vv m (nth c i)) x y).sum := by
  rw [last_at, acc_at, List.range_succ (n := 15), List.map_append, List.sum_append]
  simp [nth]

/-- A device's own row and its partner's are all the devices. -/
theorem rows_all : ∀ c : Dev nD, ((List.range 16).map (nth c) ++ (List.range 16).map (nth (far c))).Perm (List.finRange 32) := by
  decide +kernel

/-- Hence the sum over the two rows is the sum over the devices. -/
theorem rows_sum (c : Dev nD) (f : Dev nD → EReal) :
    ((List.range 16).map fun i => f (nth c i)).sum + ((List.range 16).map fun i => f (nth (far c) i)).sum = ∑ d : Dev nD, f d := by
  have h := ((rows_all c).map f).sum_eq
  rw [List.map_append, List.sum_append, List.map_map, List.map_map] at h
  refine h.trans ?_
  rw [← List.ofFn_eq_map, List.sum_ofFn]

/-- THE KERNEL'S RESULT: over all devices, the weighted values divided by the weights. -/
theorem outAt_at (c : Dev nD) (r : Fin 512) (j : Fin 128) :
    outAt m c (ix2 r j) = Ideal.div (∑ d : Dev nD, share m c r ⟨j.val, by omega⟩ d) (∑ d : Dev nD, share m c r 128 d) := by
  have key : ∀ y : Fin 256, k0_pay34 (F := Ideal) (qall m c) (k0_pay9 (F := Ideal)) (acc m c 14) (kk m (lft^[8] c)) (vv m (lft^[8] c)) (ix2 ⟨r.val, by omega⟩ y)
      + part m (far c) (ix2 r y) = ∑ d : Dev nD, share m c r y d := by
    intro y
    rw [part, sent_at, full_at, full_at]
    simp only [gain_own, gain_other, far_far]
    exact rows_sum c _
  rw [outAt, out_at, key, key]

end Cert.ValueOf

end
-- ==== Proof.Value.Reference.lean ====
/-
The reference's result at an index, as sums over the extended reals: softmax attention, row by row.
-/
module

public import proofs.«01_k».proof.Proof.Gen.ReferenceIdeal.Run
public import Idealize.ShloMosaic.Lib.Pointwise

@[expose] public section

set_option maxRecDepth 16384

noncomputable section

namespace Cert.ValueOf

open Cert.ReferenceIdeal Cert.ReferenceIdeal.Gen
open Idealize.ShloMosaic

/-- The scores. -/
def scores (q k : FVec Ideal S16384x128 .bf16) : FVec Ideal S16384x16384 .bf16 :=
  Host.divf (truncf .bf16 (Host.dotGeneral dot_S16384x128_S128x16384_S16384x16384_1_0_0_1_n_n none q (transpose S128x16384 [1, 0] k transposes_S16384x128_S128x16384_1_0)) bitsLt_bf16_f32) (broadcastInDim S16384x16384 ![] bcast_S_S16384x16384 (truncf .bf16 (Host.sqrt (constant S_ .f32 0x43000000#32)) bitsLt_bf16_f32))

/-- The exponentials of the scores less their row's maximum. -/
def exps (q k : FVec Ideal S16384x128 .bf16) : FVec Ideal S16384x16384 .bf16 :=
  Host.exp (subf (scores q k) (broadcastInDim S16384x16384 ![0, 1] bcast_S16384x1_S16384x16384_0_1 (broadcastInDim S16384x1 ![0] bcast_S16384_S16384x1_0 (Host.reduce FloatOps.maximumf (scores q k) (constant S_ .bf16 0xFF80#16) reducesTo_S16384x16384_S16384_d1 h_S_))))

/-- The reference's result. -/
def attention (q k v : FVec Ideal S16384x128 .bf16) : FVec Ideal S16384x128 .f32 :=
  extf .f32 (truncf .bf16 (Host.dotGeneral dot_S16384x16384_S16384x128_S16384x128_1_0_0_1_n_n none (Host.divf (exps q k) (broadcastInDim S16384x16384 ![0, 1] bcast_S16384x1_S16384x16384_0_1 (truncf .bf16 (broadcastInDim S16384x1 ![0] bcast_S16384_S16384x1_0 (Host.reduceAdd (extf .f32 (exps q k) bitsLt_bf16_f32) (constant S_ .f32 0x00000000#32) reducesTo_S16384x16384_S16384_d1 h_S_)) bitsLt_bf16_f32))) v) bitsLt_bf16_f32) bitsLt_bf16_f32

/-- A score is a query times a key, divided by `√128`. -/
theorem scores_at (q k : FVec Ideal S16384x128 .bf16) (R T : Fin 16384) :
    scores q k (ix2 R T) = Ideal.div (∑ l : Fin 128, q (ix2 R l) * k (ix2 T l)) (Ideal.sqrt (Ideal.ofBits .f32 0x43000000#32)) := by
  pointwise [scores]

/-- Its exponential, less the maximum of its row. -/
theorem exps_at (q k : FVec Ideal S16384x128 .bf16) (R T : Fin 16384) :
    exps q k (ix2 R T) = Ideal.exp (scores q k (ix2 R T)
      - Finset.fold max (Ideal.ofBits .bf16 0xFF80#16) (fun T' : Fin 16384 => scores q k (ix2 R T')) Finset.univ) := by
  pointwise [exps]

/-- THE REFERENCE'S RESULT: the values weighted by the exponentials, each divided by its row's sum. -/
theorem attention_at (q k v : FVec Ideal S16384x128 .bf16) (R : Fin 16384) (j : Fin 128) :
    attention q k v (ix2 R j)
      = ∑ T : Fin 16384, Ideal.div (exps q k (ix2 R T)) (∑ T' : Fin 16384, exps q k (ix2 R T')) * v (ix2 T j) := by
  pointwise [attention]

end Cert.ValueOf

end
-- ==== Proof.Value.Softmax.lean ====
/-
Softmax over the extended reals: at real scores, subtracting a row's maximum and dividing each weight by the
row's sum is dividing the weighted sum by the sum of the weights. The values may be infinite.
-/
module

public import Idealize.ShloMosaic.PureOps.Ideal.Laws
public import Idealize.ShloMosaic.Lib.IdealHost

@[expose] public section

noncomputable section

namespace Cert.ValueOf

open Idealize.ShloMosaic

variable {ι : Type} [Fintype ι]

/-- A sum of reals is a real. -/
theorem sum_real (f : ι → ℝ) : ∑ i, (f i : EReal) = ((∑ i, f i : ℝ) : EReal) := by
  classical
  induction (Finset.univ : Finset ι) using Finset.induction_on with
  | empty => simp
  | insert a s ha ih => rw [Finset.sum_insert ha, Finset.sum_insert ha, ih, EReal.coe_add]

/-- A nonnegative real factor comes out of a sum. -/
theorem sum_scaled (a : ℝ) (ha : 0 ≤ a) (f : ι → EReal) : ∑ i, (a : EReal) * f i = (a : EReal) * ∑ i, f i := by
  classical
  induction (Finset.univ : Finset ι) using Finset.induction_on with
  | empty => simp
  | insert b s hb ih =>
    rw [Finset.sum_insert hb, Finset.sum_insert hb, ih,
      EReal.left_distrib_of_nonneg_of_ne_top (EReal.coe_nonneg.mpr ha) (EReal.coe_ne_top a)]

/-- The maximum of a nonempty family of reals, from `⊥` on, is a real. -/
theorem max_real [Nonempty ι] (f : ι → ℝ) : ∃ μ : ℝ, Finset.fold max (⊥ : EReal) (fun i => (f i : EReal)) Finset.univ = (μ : EReal) := by
  obtain ⟨i, -, h⟩ := Finset.exists_mem_eq_sup Finset.univ Finset.univ_nonempty fun i => (f i : EReal)
  exact ⟨f i, h⟩

/-- THE SOFTMAX EQUATION. -/
theorem softmax [Nonempty ι] (s : ι → ℝ) (μ : ℝ) (v : ι → EReal) :
    ∑ i, Ideal.div (Ideal.exp ((s i : EReal) - (μ : EReal))) (∑ i', Ideal.exp ((s i' : EReal) - (μ : EReal))) * v i
      = Ideal.div (∑ i, Ideal.exp (s i : EReal) * v i) (∑ i, Ideal.exp (s i : EReal) * 1) := by
  have e : ∀ i, Ideal.exp ((s i : EReal) - (μ : EReal)) = ((Real.exp (s i) * Real.exp (-μ) : ℝ) : EReal) := by
    intro i
    rw [← EReal.coe_sub, Ideal.exp_coe, ← Real.exp_add, sub_eq_add_neg]
  have hZ : 0 < ∑ i, Real.exp (s i) := Finset.sum_pos (fun i _ => Real.exp_pos _) Finset.univ_nonempty
  have hM := Real.exp_pos (-μ)
  simp only [e, mul_one, Ideal.exp_coe]
  rw [sum_real, sum_real, ← Finset.sum_mul, Ideal.div_coe hZ.ne',
    mul_comm (∑ i, _ * v i), ← sum_scaled _ (by positivity)]
  refine Finset.sum_congr rfl fun i _ => ?_
  rw [Ideal.div_coe (mul_pos hZ hM).ne', ← mul_assoc, ← EReal.coe_mul, ← EReal.coe_mul]
  congr 2
  field_simp

/-- The reference's divisor is `√128`. -/
theorem root : Ideal.sqrt (Ideal.ofBits .f32 0x43000000#32) = ((Real.sqrt 128 : ℝ) : EReal) := by
  have h : Ideal.ofBits .f32 0x43000000#32 = ((128 : ℝ) : EReal) := by
    simp [Ideal.ofBits, Ideal.ieee, -EReal.coe_mul]
    norm_num
  rw [h, Ideal.sqrt_coe, if_neg (by norm_num)]

/-- The reference's maximum starts from `⊥`. -/
theorem lowest : Ideal.ofBits .bf16 0xFF80#16 = ⊥ := by
  simp [Ideal.ofBits, Ideal.ieee]

end Cert.ValueOf

end
-- ==== Proof.Value.Result.lean ====
/-
The value claim: at finite queries and keys, what the kernel leaves on each device is that device's block of the
reference's result.
-/
module

public import proofs.«01_k».proof.Defs
public import proofs.«01_k».proof.Proof.Gen.Pre_finite_qk_KernelIdeal
public import proofs.«01_k».proof.Proof.Value.Kernel
public import proofs.«01_k».proof.Proof.Value.Reference
public import proofs.«01_k».proof.Proof.Value.Softmax
public import Idealize.ShloMosaic.Lib.ReduceAll

@[expose] public section

set_option maxRecDepth 16384

noncomputable section

namespace Cert.ValueOf

open Cert.KernelIdeal Cert.RunIdeal
open Idealize.ShloMosaic Idealize.ShloMosaic.TcCoe Idealize.SL.Sem

/-! ## The precondition -/

/-- A number whose absolute value is below infinity is a real. -/
theorem real_of_abs (x : EReal) (h : max x (-x) < ⊤) : ∃ y : ℝ, x = y := by
  obtain ⟨h1, h2⟩ := max_lt_iff.mp h
  refine ⟨x.toReal, (EReal.coe_toReal h1.ne ?_).symm⟩
  rintro rfl
  exact h2.ne (by simp)

/-- An element that passed the comparison with infinity is a real. -/
theorem real_of_test (x : FVec Ideal S512x128 .bf16) (h : (⟨0, ![]⟩ : Shape).BroadcastsInDim S512x128 ![]) (i : S512x128.Idx)
    (e : cmpf .olt (Host.absf x) (broadcastInDim S512x128 ![] h (constant ⟨0, ![]⟩ .bf16 0x7F80#16)) i = 1#1) :
    ∃ y : ℝ, x i = y := by
  have e' : Ideal.cmp .olt (max (x i) (-(x i))) (Ideal.ofBits .bf16 0x7F80#16) = 1#1 := e
  have t : Ideal.ofBits .bf16 0x7F80#16 = ⊤ := by simp [Ideal.ofBits, Ideal.ieee]
  rw [t] at e'
  refine real_of_abs _ ?_
  by_contra hn
  simp [Ideal.cmp, hn] at e'

/-- Where the precondition holds, the queries and the keys are reals. -/
theorem finite_of (q k v : FVec Ideal S512x128 .bf16)
    (h : Cert.Pre_finite_qk_KernelIdeal.fn (F := Ideal) q k v = fun _ => 1#1) :
    (∀ i, ∃ y : ℝ, q i = y) ∧ ∀ i, ∃ y : ℝ, k i = y := by
  haveI : Subsingleton (Cert.Pre_finite_qk_KernelIdeal.S_).Idx := ⟨fun a b => funext fun x => x.elim0⟩
  obtain ⟨h1, h2⟩ := IntOp.andi_eq_one.1 (congrFun h ix0)
  exact ⟨fun i => real_of_test q _ i (Host.reduce_andi_all _ _ _ _ _ h1 i), fun i => real_of_test k _ i (Host.reduce_andi_all _ _ _ _ _ h2 i)⟩

/-! ## Rows of the whole arrays -/

set_option backward.proofsInPublic true in
/-- Device `c`'s row `r` in the whole array. -/
def row (c : Fin 32) (r : Fin 512) : Fin 16384 := ⟨c.val * 512 + r.val, by omega⟩

/-- Device `c`'s block at `(r, l)`. -/
theorem block_at {α : Type} (c : Fin 32) (g : (⟨2, ![16384, 128]⟩ : Shape).Idx → α) (h : Layout.Tiles ⟨2, ![512, 128]⟩ ⟨2, ![16384, 128]⟩ 0 32)
    (r : Fin 512) (l : Fin 128) : Layout.block ⟨2, ![512, 128]⟩ ⟨2, ![16384, 128]⟩ 0 32 c g h (ix2 r l) = g (ix2 (row c r) l) := by
  rw [Layout.block_apply]
  refine congrArg g (funext fun a => Fin.ext ?_)
  fin_cases a <;> rfl

/-- Every row is some device's. -/
theorem row_surj (R : Fin 16384) : ∃ c r, R = row c r :=
  ⟨⟨R.val / 512, by omega⟩, ⟨R.val % 512, by omega⟩, Fin.ext (by simp only [row]; omega)⟩

/-- A sum over the rows is the sum over the devices of the sums over theirs. -/
theorem row_sum (f : Fin 16384 → EReal) : ∑ R, f R = ∑ d : Fin 32, ∑ t : Fin 512, f (row d t) := by
  rw [← Fintype.sum_prod_type' (f := fun d t => f (row d t))]
  refine (Fintype.sum_equiv (finProdFinEquiv (m := 32) (n := 512)) _ _ fun x => congrArg f (Fin.ext ?_)).symm
  simp only [row, finProdFinEquiv_apply_val]
  omega

/-! ## The two results -/

/-- At real queries and keys a score is a real. -/
theorem scores_real (q k : FVec Ideal Cert.ReferenceIdeal.S16384x128 .bf16) (x y : Fin 16384 → Fin 128 → ℝ)
    (hq : ∀ R l, q (ix2 R l) = (x R l : EReal)) (hk : ∀ R l, k (ix2 R l) = (y R l : EReal)) (R T : Fin 16384) :
    scores q k (ix2 R T) = (((∑ l, x R l * y T l) * (Real.sqrt 128)⁻¹ : ℝ) : EReal) := by
  rw [scores_at, root, Ideal.div_coe (Real.sqrt_pos.mpr (by norm_num)).ne']
  simp only [hq, hk, ← EReal.coe_mul]
  rw [sum_real, ← EReal.coe_mul, one_div]

/-- The reference's result: the weighted values over the weights. -/
theorem attention_eq (q k v : FVec Ideal Cert.ReferenceIdeal.S16384x128 .bf16) (x y : Fin 16384 → Fin 128 → ℝ)
    (hq : ∀ R l, q (ix2 R l) = (x R l : EReal)) (hk : ∀ R l, k (ix2 R l) = (y R l : EReal)) (R : Fin 16384) (j : Fin 128) :
    attention q k v (ix2 R j)
      = Ideal.div (∑ T, Ideal.exp (((∑ l, x R l * y T l) * (Real.sqrt 128)⁻¹ : ℝ) : EReal) * v (ix2 T j))
          (∑ T : Fin 16384, Ideal.exp (((∑ l, x R l * y T l) * (Real.sqrt 128)⁻¹ : ℝ) : EReal) * 1) := by
  rw [attention_at]
  simp only [exps_at, scores_real q k x y hq hk, lowest]
  obtain ⟨μ, hμ⟩ := max_real fun T : Fin 16384 => (∑ l, x R l * y T l) * (Real.sqrt 128)⁻¹
  rw [hμ]
  exact softmax (fun T => (∑ l, x R l * y T l) * (Real.sqrt 128)⁻¹) μ fun T => v (ix2 T j)

variable (m : (ℓ : Loc nD τ sig) → Buf (Elt Ideal) ℓ)

/-- The kernel's weights are the exponentials of the scores. -/
theorem weight_real (x y : Fin 16384 → Fin 128 → ℝ) (hq : ∀ c r l, qst m c (ix2 r l) = (x (row c r) l : EReal))
    (hk : ∀ c r l, kst m c (ix2 r l) = (y (row c r) l : EReal)) (c : Dev nD) (r : Fin 512) (d : Dev nD) (t : Fin 512) :
    weight m c r d t = Ideal.exp (((∑ l, x (row c r) l * y (row d t) l) * (Real.sqrt 128)⁻¹ : ℝ) : EReal) := by
  unfold weight
  simp only [hq, hk, ← EReal.coe_mul]
  rw [sum_real, Finset.sum_mul]
  exact congrArg (fun s : ℝ => Ideal.exp (s : EReal)) (Finset.sum_congr rfl fun l _ => by ring)

/-- On each device the kernel's result is the block of the reference's. -/
theorem outAt_eq (q k v : FVec Ideal Cert.ReferenceIdeal.S16384x128 .bf16) (x y : Fin 16384 → Fin 128 → ℝ)
    (hq : ∀ R l, q (ix2 R l) = (x R l : EReal)) (hk : ∀ R l, k (ix2 R l) = (y R l : EReal))
    (hqm : ∀ c r l, qst m c (ix2 r l) = q (ix2 (row c r) l)) (hkm : ∀ c r l, kst m c (ix2 r l) = k (ix2 (row c r) l))
    (hvm : ∀ c r l, vst m c (ix2 r l) = v (ix2 (row c r) l)) (c : Dev nD) (r : Fin 512) (j : Fin 128) :
    outAt m c (ix2 r j) = attention q k v (ix2 (row c r) j) := by
  have w := weight_real m x y (fun c r l => (hqm c r l).trans (hq _ _)) (fun c r l => (hkm c r l).trans (hk _ _))
  rw [outAt_at, attention_eq q k v x y hq hk, row_sum, row_sum]
  unfold share
  simp only [w, hvm, dif_pos j.isLt, show ¬ (128 : Fin 256).val < 128 by decide, dite_false]

/-! ## The claim -/

/-- At finite queries and keys, the kernel's blocks together are the reference's result. -/
theorem algebraic : Cert.algebraic_KernelIdeal_ReferenceIdeal_pre_finite_qk_KernelIdeal := by
  intro m g m' g' hpre hm
  obtain ⟨Q, hQ⟩ : ∃ Q, m' (((0 : Dev Cert.ReferenceIdeal.nD).tc : Thread Cert.ReferenceIdeal.nD Cert.ReferenceIdeal.τ).loc Cert.ReferenceIdeal.main_arg0) = Q := ⟨_, rfl⟩
  obtain ⟨K, hK⟩ : ∃ K, m' (((0 : Dev Cert.ReferenceIdeal.nD).tc : Thread Cert.ReferenceIdeal.nD Cert.ReferenceIdeal.τ).loc Cert.ReferenceIdeal.main_arg1) = K := ⟨_, rfl⟩
  obtain ⟨V, hV⟩ : ∃ V, m' (((0 : Dev Cert.ReferenceIdeal.nD).tc : Thread Cert.ReferenceIdeal.nD Cert.ReferenceIdeal.τ).loc Cert.ReferenceIdeal.main_arg2) = V := ⟨_, rfl⟩
  rw [hQ, hK, hV] at hm
  have hqm : ∀ c r l, qst m c (ix2 r l) = Q (ix2 (row c r) l) := fun c r l => by
    rw [qst_eq]; exact (congrFun (hm c).1 _).trans (block_at c Q _ r l)
  have hkm : ∀ c r l, kst m c (ix2 r l) = K (ix2 (row c r) l) := fun c r l => by
    rw [kst_eq]; exact (congrFun (hm c).2.1 _).trans (block_at c K _ r l)
  have hvm : ∀ c r l, vst m c (ix2 r l) = V (ix2 (row c r) l) := fun c r l => by
    rw [vst_eq]; exact (congrFun (hm c).2.2 _).trans (block_at c V _ r l)
  have hq : ∀ R l, ∃ y : ℝ, Q (ix2 R l) = (y : EReal) := fun R l => by
    obtain ⟨c, r, rfl⟩ := row_surj R
    obtain ⟨y, hy⟩ := (finite_of _ _ _ (hpre c)).1 (ix2 r l)
    exact ⟨y, by rw [← hqm, qst_eq]; exact hy⟩
  have hk : ∀ R l, ∃ y : ℝ, K (ix2 R l) = (y : EReal) := fun R l => by
    obtain ⟨c, r, rfl⟩ := row_surj R
    obtain ⟨y, hy⟩ := (finite_of _ _ _ (hpre c)).2 (ix2 r l)
    exact ⟨y, by rw [← hkm, kst_eq]; exact hy⟩
  choose x hx using hq
  choose y hy using hk
  refine ⟨attention Q K V, ?_, ?_⟩
  · refine (θ_run Cert.KernelIdeal.defs _ _).mono (fun r h c => ⟨(h.1 c).1.trans ?_, (h.1 c).2⟩) (run_all (F := Ideal) m g)
    funext i
    rw [eq_ix2 i]
    exact (outAt_eq m Q K V x y hx hy hqm hkm hvm c (i 0) (i 1)).trans (block_at c (attention Q K V) _ (i 0) (i 1)).symm
  · refine (θ_run Cert.ReferenceIdeal.defs _ _).mono (fun r h => ⟨(h 0).1.trans ?_, (h 0).2⟩) (Cert.ReferenceIdeal.Value.run (F := Ideal) m' g')
    rw [hQ, hK, hV]
    rfl

end Cert.ValueOf

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite_qk_KernelIdeal
public import proofs.«01_k».proof.Proof.Gen.Pre_finite_qk_ReferenceIdeal
public import proofs.«01_k».proof.Proof.Gen.ReferenceIdeal.Run
public import proofs.«01_k».proof.Proof.Frames
public import proofs.«01_k».proof.Proof.Value.Result
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts,
    Cert.Pre_finite_qk_KernelIdeal.Gen.facts, Cert.Pre_finite_qk_ReferenceIdeal.Gen.facts,
    Cert.Claims.frame_p, Cert.Claims.frame_pi, fun m ρ _ => Cert.Claims.frame_pi m ρ trivial,
    Cert.Claims.frame_ri, fun m ρ _ => Cert.Claims.frame_ri m ρ trivial, Cert.Claims.preserves, Cert.ValueOf.algebraic⟩

end Cert.Proof

end
